-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8 : Shape := ⟨1, ![8]⟩
abbrev S2x16384x512 : Shape := ⟨3, ![2, 16384, 512]⟩
abbrev S2x16384x128 : Shape := ⟨3, ![2, 16384, 128]⟩
abbrev S1x512 : Shape := ⟨2, ![1, 512]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S2x16384x512 : S_.BroadcastsInDim S2x16384x512 (![] : Fin 0 → Fin S2x16384x512.rank)
  reducesTo_S2x16384x512_S_d0_1_2 : S2x16384x512.ReducesTo [0, 1, 2] S_
  bcast_S_S2x16384x128 : S_.BroadcastsInDim S2x16384x128 (![] : Fin 0 → Fin S2x16384x128.rank)
  reducesTo_S2x16384x128_S_d0_1_2 : S2x16384x128.ReducesTo [0, 1, 2] S_

variable [Facts]

def fn {F : FTy → Type} [FloatOps F] (main_arg0 : FVec F S8 .f32) (main_arg1 : FVec F S2x16384x512 .bf16) (main_arg2 : FVec F S2x16384x128 .bf16) (main_arg3 : FVec F S2x16384x128 .bf16) (main_arg4 : FVec F S1x512 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S2x16384x512 .f32 := (extf .f32 · bitsLt_bf16_f32) main_arg1
  let main_v5 : FVec F S2x16384x512 .f32 := Host.absf main_v4
  let main_cst_0 : FVec F S_ .f32 := constant S_ .f32 0x7F800000#32
  let main_v6 : FVec F S2x16384x512 .f32 := broadcastInDim S2x16384x512 ![] bcast_S_S2x16384x512 main_cst_0
  let main_v7 : IVec S2x16384x512 1 := cmpf .olt main_v5 main_v6
  let main_c_1 : IVec S_ 1 := constantI S_ 1 1#1
  let main_v8 : IVec S_ 1 := (fun x v => Host.reduce IntOp.andi x v reducesTo_S2x16384x512_S_d0_1_2 h_S_) main_v7 main_c_1
  let main_v9 : FVec F S2x16384x128 .f32 := (extf .f32 · bitsLt_bf16_f32) main_arg2
  let main_v10 : FVec F S2x16384x128 .f32 := Host.absf main_v9
  let main_cst_2 : FVec F S_ .f32 := constant S_ .f32 0x7F800000#32
  let main_v11 : FVec F S2x16384x128 .f32 := broadcastInDim S2x16384x128 ![] bcast_S_S2x16384x128 main_cst_2
  let main_v12 : IVec S2x16384x128 1 := cmpf .olt main_v10 main_v11
  let main_c_3 : IVec S_ 1 := constantI S_ 1 1#1
  let main_v13 : IVec S_ 1 := (fun x v => Host.reduce IntOp.andi x v reducesTo_S2x16384x128_S_d0_1_2 h_S_) main_v12 main_c_3
  let main_v14 : IVec S_ 1 := andi main_v3 main_v8
  let main_v15 : IVec S_ 1 := andi main_v14 main_v13
  main_v15
-- ==== Kernel.lean ====
abbrev S8 : Shape := ⟨1, ![8]⟩
abbrev S2x16384x512 : Shape := ⟨3, ![2, 16384, 512]⟩
abbrev S2x16384x128 : Shape := ⟨3, ![2, 16384, 128]⟩
abbrev S1x512 : Shape := ⟨2, ![1, 512]⟩
abbrev S1x1024x512 : Shape := ⟨3, ![1, 1024, 512]⟩
abbrev S1x128x128 : Shape := ⟨3, ![1, 128, 128]⟩
abbrev S1x1024x128 : Shape := ⟨3, ![1, 1024, 128]⟩
abbrev S128x128 : Shape := ⟨2, ![128, 128]⟩
abbrev S1024x128 : Shape := ⟨2, ![1024, 128]⟩
abbrev S1280x128 : Shape := ⟨2, ![1280, 128]⟩
abbrev S384x128 : Shape := ⟨2, ![384, 128]⟩
abbrev S512x128 : Shape := ⟨2, ![512, 128]⟩
abbrev S512x384 : Shape := ⟨2, ![512, 384]⟩
abbrev S1 : Shape := ⟨1, ![1]⟩
abbrev S128x384 : Shape := ⟨2, ![128, 384]⟩
abbrev S128 : Shape := ⟨1, ![128]⟩
abbrev S128x1 : Shape := ⟨2, ![128, 1]⟩
abbrev S128x512 : Shape := ⟨2, ![128, 512]⟩
abbrev S1x128x512 : Shape := ⟨3, ![1, 128, 512]⟩

abbrev nBuf : Space → Nat
  | .hbm => 6
  | .vmem => 17
  | .smem => 1
  | _ => 0

abbrev bufTy : (tb : Table) → Fin (tcTables nBuf tb) → BufTy
  | .hbm, ⟨0, _⟩ => ⟨S8, .f32⟩
  | .hbm, ⟨1, _⟩ => ⟨S2x16384x512, .bf16⟩
  | .hbm, ⟨2, _⟩ => ⟨S2x16384x128, .bf16⟩
  | .hbm, ⟨3, _⟩ => ⟨S2x16384x128, .bf16⟩
  | .hbm, ⟨4, _⟩ => ⟨S1x512, .f32⟩
  | .hbm, ⟨5, _⟩ => ⟨S2x16384x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x512, .f32⟩
  | .local _ .vmem, ⟨15, _⟩ => ⟨S1x1024x512, .bf16⟩
  | .local _ .vmem, ⟨16, _⟩ => ⟨S1x1024x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8 : Shape := ⟨1, ![8]⟩
abbrev S2x16384x512 : Shape := ⟨3, ![2, 16384, 512]⟩
abbrev S2x16384x128 : Shape := ⟨3, ![2, 16384, 128]⟩
abbrev S1x512 : Shape := ⟨2, ![1, 512]⟩
abbrev S_ : Shape := ⟨0, ![]⟩
abbrev S256x128x4x2x64 : Shape := ⟨5, ![256, 128, 4, 2, 64]⟩
abbrev S2x16384x2x64 : Shape := ⟨4, ![2, 16384, 2, 64]⟩
abbrev S2x16640x2x64 : Shape := ⟨4, ![2, 16640, 2, 64]⟩
abbrev S2x130x128x2x64 : Shape := ⟨5, ![2, 130, 128, 2, 64]⟩
abbrev S2x128x128x2x64 : Shape := ⟨5, ![2, 128, 128, 2, 64]⟩
abbrev S2x128x384x2x64 : Shape := ⟨5, ![2, 128, 384, 2, 64]⟩
abbrev S256x384x2x64 : Shape := ⟨4, ![256, 384, 2, 64]⟩
abbrev S256x2x384x128x4 : Shape := ⟨5, ![256, 2, 384, 128, 4]⟩
abbrev S256x2x4x128x384 : Shape := ⟨5, ![256, 2, 4, 128, 384]⟩
abbrev S256 : Shape := ⟨1, ![256]⟩
abbrev S256x1x1 : Shape := ⟨3, ![256, 1, 1]⟩
abbrev S128 : Shape := ⟨1, ![128]⟩
abbrev S1x128x1 : Shape := ⟨3, ![1, 128, 1]⟩
abbrev S256x128x1 : Shape := ⟨3, ![256, 128, 1]⟩
abbrev S384 : Shape := ⟨1, ![384]⟩
abbrev S1x1x384 : Shape := ⟨3, ![1, 1, 384]⟩
abbrev S256x1x384 : Shape := ⟨3, ![256, 1, 384]⟩
abbrev S256x128x384 : Shape := ⟨3, ![256, 128, 384]⟩
abbrev S256x1x1x128x384 : Shape := ⟨5, ![256, 1, 1, 128, 384]⟩
abbrev S1x2x4x1x1 : Shape := ⟨5, ![1, 2, 4, 1, 1]⟩
abbrev S256x2x4x128 : Shape := ⟨4, ![256, 2, 4, 128]⟩
abbrev S256x2x4x128x1 : Shape := ⟨5, ![256, 2, 4, 128, 1]⟩
abbrev S256x2x64x4x128 : Shape := ⟨5, ![256, 2, 64, 4, 128]⟩
abbrev S2x16384 : Shape := ⟨2, ![2, 16384]⟩
abbrev S2x16384x1 : Shape := ⟨3, ![2, 16384, 1]⟩
abbrev S512 : Shape := ⟨1, ![512]⟩
abbrev S1x1x512 : Shape := ⟨3, ![1, 1, 512]⟩

abbrev nBuf : Space → Nat
  | .hbm => 144
  | .vmem => 0
  | .smem => 0
  | _ => 0

abbrev hbmTy0_0 (i : Nat) : BufTy := match i % 128 with
  | 0 => ⟨S8, .f32⟩
  | 1 => ⟨S2x16384x512, .bf16⟩
  | 2 => ⟨S2x16384x128, .bf16⟩
  | 3 => ⟨S2x16384x128, .bf16⟩
  | 4 => ⟨S1x512, .f32⟩
  | 5 => ⟨S2x16384x512, .f32⟩
  | 6 => ⟨S_, .f32⟩
  | 7 => ⟨S_, .f32⟩
  | 8 => ⟨S_, .f32⟩
  | 9 => ⟨S_, .f32⟩
  | 10 => ⟨S2x16384x512, .f32⟩
  | 11 => ⟨S2x16384x512, .f32⟩
  | 12 => ⟨S256x128x4x2x64, .f32⟩
  | 13 => ⟨S2x16384x128, .f32⟩
  | 14 => ⟨S2x16384x2x64, .f32⟩
  | 15 => ⟨S2x16384x128, .f32⟩
  | 16 => ⟨S2x16384x2x64, .f32⟩
  | 17 => ⟨S_, .i32⟩
  | 18 => ⟨S_, .f32⟩
  | 19 => ⟨S2x16640x2x64, .f32⟩
  | 20 => ⟨S2x130x128x2x64, .f32⟩
  | 21 => ⟨S2x128x128x2x64, .f32⟩
  | 22 => ⟨S2x128x128x2x64, .f32⟩
  | 23 => ⟨S2x128x128x2x64, .f32⟩
  | 24 => ⟨S2x128x384x2x64, .f32⟩
  | 25 => ⟨S256x384x2x64, .f32⟩
  | 26 => ⟨S_, .i32⟩
  | 27 => ⟨S_, .f32⟩
  | 28 => ⟨S2x16640x2x64, .f32⟩
  | 29 => ⟨S2x130x128x2x64, .f32⟩
  | 30 => ⟨S2x128x128x2x64, .f32⟩
  | 31 => ⟨S2x128x128x2x64, .f32⟩
  | 32 => ⟨S2x128x128x2x64, .f32⟩
  | 33 => ⟨S2x128x384x2x64, .f32⟩
  | 34 => ⟨S256x384x2x64, .f32⟩
  | 35 => ⟨S256x2x384x128x4, .f32⟩
  | 36 => ⟨S256x2x4x128x384, .f32⟩
  | 37 => ⟨S_, .f32⟩
  | 38 => ⟨S256x2x4x128x384, .f32⟩
  | 39 => ⟨S256x2x4x128x384, .f32⟩
  | 40 => ⟨S256, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S256, .i32⟩
  | 48 => ⟨S256, .i32⟩
  | 49 => ⟨S_, .i32⟩
  | 50 => ⟨S256, .i32⟩
  | 51 => ⟨S256, .i1⟩
  | 52 => ⟨S_, .i32⟩
  | 53 => ⟨S256, .i32⟩
  | 54 => ⟨S256, .i1⟩
  | 55 => ⟨S_, .i32⟩
  | 56 => ⟨S_, .i1⟩
  | 57 => ⟨S256, .i1⟩
  | 58 => ⟨S256, .i1⟩
  | 59 => ⟨S256, .i1⟩
  | 60 => ⟨S256, .i32⟩
  | 61 => ⟨S256, .i32⟩
  | 62 => ⟨S256, .i32⟩
  | 63 => ⟨S256x1x1, .i32⟩
  | 64 => ⟨S_, .i32⟩
  | 65 => ⟨S256x1x1, .i32⟩
  | 66 => ⟨S256x1x1, .i32⟩
  | 67 => ⟨S128, .i32⟩
  | 68 => ⟨S1x128x1, .i32⟩
  | 69 => ⟨S256x128x1, .i32⟩
  | 70 => ⟨S256x128x1, .i32⟩
  | 71 => ⟨S256x128x1, .i32⟩
  | 72 => ⟨S_, .i32⟩
  | 73 => ⟨S256x1x1, .i32⟩
  | 74 => ⟨S256x1x1, .i32⟩
  | 75 => ⟨S_, .i32⟩
  | 76 => ⟨S256x1x1, .i32⟩
  | 77 => ⟨S256x1x1, .i32⟩
  | 78 => ⟨S384, .i32⟩
  | 79 => ⟨S1x1x384, .i32⟩
  | 80 => ⟨S256x1x384, .i32⟩
  | 81 => ⟨S256x1x384, .i32⟩
  | 82 => ⟨S256x1x384, .i32⟩
  | 83 => ⟨S256x128x384, .i32⟩
  | 84 => ⟨S256x128x384, .i32⟩
  | 85 => ⟨S256x128x384, .i32⟩
  | 86 => ⟨S256x128x384, .i32⟩
  | 87 => ⟨S_, .i32⟩
  | 88 => ⟨S256x128x384, .i32⟩
  | 89 => ⟨S256x128x384, .i1⟩
  | 90 => ⟨S_, .i32⟩
  | 91 => ⟨S256x1x384, .i32⟩
  | 92 => ⟨S256x1x384, .i1⟩
  | 93 => ⟨S256x128x384, .i1⟩
  | 94 => ⟨S256x128x384, .i1⟩
  | 95 => ⟨S_, .i32⟩
  | 96 => ⟨S256x1x384, .i32⟩
  | 97 => ⟨S256x1x384, .i1⟩
  | 98 => ⟨S256x128x384, .i1⟩
  | 99 => ⟨S256x128x384, .i1⟩
  | 100 => ⟨S256x1x1x128x384, .i1⟩
  | 101 => ⟨S256x2x4x128x384, .i1⟩
  | 102 => ⟨S_, .f32⟩
  | 103 => ⟨S256x2x4x128x384, .f32⟩
  | 104 => ⟨S256x2x4x128x384, .f32⟩
  | 105 => ⟨S1x2x4x1x1, .f32⟩
  | 106 => ⟨S_, .f32⟩
  | 107 => ⟨S256x2x4x128, .f32⟩
  | 108 => ⟨S256x2x4x128x1, .f32⟩
  | 109 => ⟨S256x2x4x128x1, .f32⟩
  | 110 => ⟨S256x2x4x128x1, .f32⟩
  | 111 => ⟨S256x2x4x128x384, .f32⟩
  | 112 => ⟨S256x2x4x128x384, .f32⟩
  | 113 => ⟨S256x2x4x128x384, .f32⟩
  | 114 => ⟨S_, .f32⟩
  | 115 => ⟨S256x2x4x128, .f32⟩
  | 116 => ⟨S256x2x4x128x1, .f32⟩
  | 117 => ⟨S256x2x4x128x1, .f32⟩
  | 118 => ⟨S256x2x4x128x1, .f32⟩
  | 119 => ⟨S256x2x4x128x1, .f32⟩
  | 120 => ⟨S256x2x4x128x1, .f32⟩
  | 121 => ⟨S256x2x4x128x384, .f32⟩
  | 122 => ⟨S256x2x4x128x384, .f32⟩
  | 123 => ⟨S256x2x64x4x128, .f32⟩
  | 124 => ⟨S256x128x4x2x64, .f32⟩
  | 125 => ⟨S2x16384x512, .f32⟩
  | 126 => ⟨S2x16384x512, .f32⟩
  | 127 => ⟨S_, .f32⟩
  | _ => ⟨S8, .f32⟩

abbrev hbmTy0_1 (i : Nat) : BufTy := match i % 128 with
  | 0 => ⟨S2x16384, .f32⟩
  | 1 => ⟨S2x16384x1, .f32⟩
  | 2 => ⟨S_, .f32⟩
  | 3 => ⟨S2x16384x1, .f32⟩
  | 4 => ⟨S2x16384x1, .f32⟩
  | 5 => ⟨S_, .f32⟩
  | 6 => ⟨S2x16384x1, .f32⟩
  | 7 => ⟨S2x16384x1, .f32⟩
  | 8 => ⟨S2x16384x1, .f32⟩
  | 9 => ⟨S2x16384x512, .f32⟩
  | 10 => ⟨S2x16384x512, .f32⟩
  | 11 => ⟨S512, .f32⟩
  | 12 => ⟨S1x1x512, .f32⟩
  | 13 => ⟨S2x16384x512, .f32⟩
  | 14 => ⟨S2x16384x512, .f32⟩
  | 15 => ⟨S2x16384x512, .bf16⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_call2_v0 : Ref sig .tc := ⟨.hbm, 42, rfl⟩
abbrev main_call2_c : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_c_1 : Ref sig .tc := ⟨.hbm, 49, rfl⟩
abbrev main_call2_v5 : Ref sig .tc := ⟨.hbm, 50, rfl⟩
abbrev main_call2_v6 : Ref sig .tc := ⟨.hbm, 51, rfl⟩
abbrev main_call2_c_2 : Ref sig .tc := ⟨.hbm, 52, rfl⟩
abbrev main_call2_v7 : Ref sig .tc := ⟨.hbm, 53, rfl⟩
abbrev main_call2_v8 : Ref sig .tc := ⟨.hbm, 54, rfl⟩
abbrev main_call2_c_3 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_v29 : Ref sig .tc := ⟨.hbm, 62, rfl⟩
abbrev main_v30 : Ref sig .tc := ⟨.hbm, 63, rfl⟩
abbrev main_c_4 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_5 : Ref sig .tc := ⟨.hbm, 72, rfl⟩
abbrev main_v38 : Ref sig .tc := ⟨.hbm, 73, rfl⟩
abbrev main_v39 : Ref sig .tc := ⟨.hbm, 74, rfl⟩
abbrev main_c_6 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_7 : Ref sig .tc := ⟨.hbm, 87, rfl⟩
abbrev main_v51 : Ref sig .tc := ⟨.hbm, 88, rfl⟩
abbrev main_v52 : Ref sig .tc := ⟨.hbm, 89, rfl⟩
abbrev main_c_8 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_9 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_10 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_11 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_12 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_13 : Ref sig .tc := ⟨.hbm, 127, rfl⟩
abbrev main_v85 : Ref sig .tc := ⟨.hbm, 128, rfl⟩
abbrev main_v86 : Ref sig .tc := ⟨.hbm, 129, rfl⟩
abbrev main_cst_14 : Ref sig .tc := ⟨.hbm, 130, rfl⟩
abbrev main_v87 : Ref sig .tc := ⟨.hbm, 131, rfl⟩
abbrev main_v88 : Ref sig .tc := ⟨.hbm, 132, rfl⟩
abbrev main_cst_15 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x16384x512 : Shape := ⟨3, ![2, 16384, 512]⟩
abbrev S2x4x16384x128 : Shape := ⟨4, ![2, 4, 16384, 128]⟩
abbrev S2x16384x256 : Shape := ⟨3, ![2, 16384, 256]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S256x1024 : Shape := ⟨2, ![256, 1024]⟩
abbrev S1x512x1024 : Shape := ⟨3, ![1, 512, 1024]⟩
abbrev S1x16x1024 : Shape := ⟨3, ![1, 16, 1024]⟩
abbrev S1x512x512 : Shape := ⟨3, ![1, 512, 512]⟩
abbrev S1x16x512 : Shape := ⟨3, ![1, 16, 512]⟩
abbrev S1x4x512x128 : Shape := ⟨4, ![1, 4, 512, 128]⟩
abbrev S1x4x16x128 : Shape := ⟨4, ![1, 4, 16, 128]⟩
abbrev S1x512x256 : Shape := ⟨3, ![1, 512, 256]⟩
abbrev S4x2x2x528x128 : Shape := ⟨5, ![4, 2, 2, 528, 128]⟩
abbrev S8x512x128 : Shape := ⟨3, ![8, 512, 128]⟩
abbrev S16x1024 : Shape := ⟨2, ![16, 1024]⟩
abbrev S512x1024 : Shape := ⟨2, ![512, 1024]⟩
abbrev S544x1024 : Shape := ⟨2, ![544, 1024]⟩
abbrev S16x512 : Shape := ⟨2, ![16, 512]⟩
abbrev S512x512 : Shape := ⟨2, ![512, 512]⟩
abbrev S544x512 : Shape := ⟨2, ![544, 512]⟩
abbrev S1x1x16x128 : Shape := ⟨4, ![1, 1, 16, 128]⟩
abbrev S16x128 : Shape := ⟨2, ![16, 128]⟩
abbrev S1x1x512x128 : Shape := ⟨4, ![1, 1, 512, 128]⟩
abbrev S512x128 : Shape := ⟨2, ![512, 128]⟩
abbrev S544x128 : Shape := ⟨2, ![544, 128]⟩
abbrev S544x1 : Shape := ⟨2, ![544, 1]⟩
abbrev S512x256 : Shape := ⟨2, ![512, 256]⟩
abbrev S512 : Shape := ⟨1, ![512]⟩
abbrev S512x1 : Shape := ⟨2, ![512, 1]⟩
abbrev S544 : Shape := ⟨1, ![544]⟩
abbrev S528x1024 : Shape := ⟨2, ![528, 1024]⟩
abbrev S1024x256 : Shape := ⟨2, ![1024, 256]⟩
abbrev S528x256 : Shape := ⟨2, ![528, 256]⟩
abbrev S528x128 : Shape := ⟨2, ![528, 128]⟩
abbrev S1x1x1x528x128 : Shape := ⟨5, ![1, 1, 1, 528, 128]⟩
abbrev S3x128 : Shape := ⟨2, ![3, 128]⟩
abbrev S1x128 : Shape := ⟨2, ![1, 128]⟩
abbrev S1x1x1x256x128 : Shape := ⟨5, ![1, 1, 1, 256, 128]⟩
abbrev S256x128 : Shape := ⟨2, ![256, 128]⟩
abbrev S1x256x128 : Shape := ⟨3, ![1, 256, 128]⟩
abbrev S1x512x128 : Shape := ⟨3, ![1, 512, 128]⟩

abbrev nBuf : Space → Nat
  | .hbm => 15
  | .vmem => 34
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x4x16384x128, .f32⟩
  | .hbm, ⟨3, _⟩ => ⟨S2x16384x256, .f32⟩
  | .hbm, ⟨4, _⟩ => ⟨S1024x1024, .bf16⟩
  | .hbm, ⟨5, _⟩ => ⟨S1x1024, .f32⟩
  | .hbm, ⟨6, _⟩ => ⟨S1024x5632, .bf16⟩
  | .hbm, ⟨7, _⟩ => ⟨S3x5632, .f32⟩
  | .hbm, ⟨8, _⟩ => ⟨S1x5632, .f32⟩
  | .hbm, ⟨9, _⟩ => ⟨S2816x1024, .bf16⟩
  | .hbm, ⟨10, _⟩ => ⟨S256x1024, .bf16⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x512x512, .bf16⟩
  | .local _ .vmem, ⟨7, _⟩ => ⟨S1x512x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x4x512x128, .f32⟩
  | .local _ .vmem, ⟨13, _⟩ => ⟨S1x4x512x128, .f32⟩
  | .local _ .vmem, ⟨14, _⟩ => ⟨S1x4x16x128, .f32⟩
  | .local _ .vmem, ⟨15, _⟩ => ⟨S1x4x16x128, .f32⟩
  | .local _ .vmem, ⟨16, _⟩ => ⟨S1x4x16x128, .f32⟩
  | .local _ .vmem, ⟨17, _⟩ => ⟨S1x4x16x128, .f32⟩
  | .local _ .vmem, ⟨18, _⟩ => ⟨S1x512x256, .f32⟩
  | .local _ .vmem, ⟨19, _⟩ => ⟨S1x512x256, .f32⟩
  | .local _ .vmem, ⟨20, _⟩ => ⟨S1024x1024, .bf16⟩
  | .local _ .vmem, ⟨21, _⟩ => ⟨S1x1024, .f32⟩
  | .local _ .vmem, ⟨22, _⟩ => ⟨S1024x5632, .bf16⟩
  | .local _ .vmem, ⟨23, _⟩ => ⟨S3x5632, .f32⟩
  | .local _ .vmem, ⟨24, _⟩ => ⟨S1x5632, .f32⟩
  | .local _ .vmem, ⟨25, _⟩ => ⟨S2816x1024, .bf16⟩
  | .local _ .vmem, ⟨26, _⟩ => ⟨S256x1024, .bf16⟩
  | .local _ .vmem, ⟨27, _⟩ => ⟨S1x1024, .f32⟩
  | .local _ .vmem, ⟨28, _⟩ => ⟨S1024x1024, .bf16⟩
  | .local _ .vmem, ⟨29, _⟩ => ⟨S1x1024, .f32⟩
  | .local _ .vmem, ⟨30, _⟩ => ⟨S1x512x1024, .f32⟩
  | .local _ .vmem, ⟨31, _⟩ => ⟨S1x512x1024, .f32⟩
  | .local _ .vmem, ⟨32, _⟩ => ⟨S4x2x2x528x128, .f32⟩
  | .local _ .vmem, ⟨33, _⟩ => ⟨S8x512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![arg0.toNat, c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S2x16384x1024 : Shape := ⟨3, ![2, 16384, 1024]⟩
abbrev S2x16384x512 : Shape := ⟨3, ![2, 16384, 512]⟩
abbrev S2x4x16384x128 : Shape := ⟨4, ![2, 4, 16384, 128]⟩
abbrev S2x16384x256 : Shape := ⟨3, ![2, 16384, 256]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S256x1024 : Shape := ⟨2, ![256, 1024]⟩
abbrev S2x16384x4x128 : Shape := ⟨4, ![2, 16384, 4, 128]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16386x5632 : Shape := ⟨3, ![2, 16386, 5632]⟩
abbrev S5632 : Shape := ⟨1, ![5632]⟩
abbrev S1x1x5632 : Shape := ⟨3, ![1, 1, 5632]⟩
abbrev S2x16384x2816 : Shape := ⟨3, ![2, 16384, 2816]⟩

abbrev nBuf : Space → Nat
  | .hbm => 117
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x4x16384x128, .f32⟩
  | .hbm, ⟨3, _⟩ => ⟨S2x16384x256, .f32⟩
  | .hbm, ⟨4, _⟩ => ⟨S1024x1024, .bf16⟩
  | .hbm, ⟨5, _⟩ => ⟨S1x1024, .f32⟩
  | .hbm, ⟨6, _⟩ => ⟨S1024x5632, .bf16⟩
  | .hbm, ⟨7, _⟩ => ⟨S3x5632, .f32⟩
  | .hbm, ⟨8, _⟩ => ⟨S1x5632, .f32⟩
  | .hbm, ⟨9, _⟩ => ⟨S2816x1024, .bf16⟩
  | .hbm, ⟨10, _⟩ => ⟨S256x1024, .bf16⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S1024x1024, .f32⟩
  | .hbm, ⟨15, _⟩ => ⟨S1024x5632, .f32⟩
  | .hbm, ⟨16, _⟩ => ⟨S2816x1024, .f32⟩
  | .hbm, ⟨17, _⟩ => ⟨S256x1024, .f32⟩
  | .hbm, ⟨18, _⟩ => ⟨S1024x1024, .f32⟩
  | .hbm, ⟨19, _⟩ => ⟨S2x16384x512, .f32⟩
  | .hbm, ⟨20, _⟩ => ⟨S2x16384x4x128, .f32⟩
  | .hbm, ⟨21, _⟩ => ⟨S2x16384x512, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S1024, .f32⟩
  | .hbm, ⟨26, _⟩ => ⟨S2x16384x1024, .f32⟩
  | .hbm, ⟨27, _⟩ => ⟨S_, .f32⟩
  | .hbm, ⟨28, _⟩ => ⟨S2x16384, .f32⟩
  | .hbm, ⟨29, _⟩ => ⟨S2x16384x1, .f32⟩
  | .hbm, ⟨30, _⟩ => ⟨S_, .f32⟩
  | .hbm, ⟨31, _⟩ => ⟨S2x16384x1, .f32⟩
  | .hbm, ⟨32, _⟩ => ⟨S2x16384x1, .f32⟩
  | .hbm, ⟨33, _⟩ => ⟨S_, .f32⟩
  | .hbm, ⟨34, _⟩ => ⟨S2x16384x1, .f32⟩
  | .hbm, ⟨35, _⟩ => ⟨S2x16384x1, .f32⟩
  | .hbm, ⟨36, _⟩ => ⟨S2x16384x1, .f32⟩
  | .hbm, ⟨37, _⟩ => ⟨S2x16384x1024, .f32⟩
  | .hbm, ⟨38, _⟩ => ⟨S2x16384x1024, .f32⟩
  | .hbm, ⟨39, _⟩ => ⟨S1x1x1024, .f32⟩
  | .hbm, ⟨40, _⟩ => ⟨S2x16384x1024, .f32⟩
  | .hbm, ⟨41, _⟩ => ⟨S2x16384x1024, .f32⟩
  | .hbm, ⟨42, _⟩ => ⟨S2x16384x5632, .f32⟩
  | .hbm, ⟨43, _⟩ => ⟨S_, .i32⟩
  | .hbm, ⟨44, _⟩ => ⟨S_, .f32⟩
  | .hbm, ⟨45, _⟩ => ⟨S2x16386x5632, .f32⟩
  | .hbm, ⟨46, _⟩ => ⟨S2x16384x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S2x16384x5632, .f32⟩
  | .hbm, ⟨51, _⟩ => ⟨S2x16384x5632, .f32⟩
  | .hbm, ⟨52, _⟩ => ⟨S2x16384x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S2x16384x5632, .f32⟩
  | .hbm, ⟨57, _⟩ => ⟨S2x16384x5632, .f32⟩
  | .hbm, ⟨58, _⟩ => ⟨S2x16384x5632, .f32⟩
  | .hbm, ⟨59, _⟩ => ⟨S2x16384x5632, .f32⟩
  | .hbm, ⟨60, _⟩ => ⟨S1x5632, .f32⟩
  | .hbm, ⟨61, _⟩ => ⟨S5632, .f32⟩
  | .hbm, ⟨62, _⟩ => ⟨S1x1x5632, .f32⟩
  | .hbm, ⟨63, _⟩ => ⟨S2x16384x5632, .f32⟩
  | .hbm, ⟨64, _⟩ => ⟨S2x16384x5632, .f32⟩
  | .hbm, ⟨65, _⟩ => ⟨S2x16384x5632, .f32⟩
  | .hbm, ⟨66, _⟩ => ⟨S5632, .f32⟩
  | .hbm, ⟨67, _⟩ => ⟨S1x1x5632, .f32⟩
  | .hbm, ⟨68, _⟩ => ⟨S2x16384x5632, .f32⟩
  | .hbm, ⟨69, _⟩ => ⟨S2x16384x5632, .f32⟩
  | .hbm, ⟨70, _⟩ => ⟨S2x16384x2816, .f32⟩
  | .hbm, ⟨71, _⟩ => ⟨S2x16384x2816, .f32⟩
  | .hbm, ⟨72, _⟩ => ⟨S2x16384x2816, .f32⟩
  | .hbm, ⟨73, _⟩ => ⟨S2x16384x2816, .f32⟩
  | .hbm, ⟨74, _⟩ => ⟨S_, .f32⟩
  | .hbm, ⟨75, _⟩ => ⟨S2x16384x2816, .f32⟩
  | .hbm, ⟨76, _⟩ => ⟨S2x16384x2816, .f32⟩
  | .hbm, ⟨77, _⟩ => ⟨S_, .f32⟩
  | .hbm, ⟨78, _⟩ => ⟨S2x16384x2816, .f32⟩
  | .hbm, ⟨79, _⟩ => ⟨S2x16384x2816, .f32⟩
  | .hbm, ⟨80, _⟩ => ⟨S2x16384x2816, .f32⟩
  | .hbm, ⟨81, _⟩ => ⟨S2x16384x2816, .f32⟩
  | .hbm, ⟨82, _⟩ => ⟨S2x16384x1024, .f32⟩
  | .hbm, ⟨83, _⟩ => ⟨S2x16384x1024, .f32⟩
  | .hbm, ⟨84, _⟩ => ⟨S2x16384x1024, .f32⟩
  | .hbm, ⟨85, _⟩ => ⟨S1024, .f32⟩
  | .hbm, ⟨86, _⟩ => ⟨S2x16384x1024, .f32⟩
  | .hbm, ⟨87, _⟩ => ⟨S_, .f32⟩
  | .hbm, ⟨88, _⟩ => ⟨S2x16384, .f32⟩
  | .hbm, ⟨89, _⟩ => ⟨S2x16384x1, .f32⟩
  | .hbm, ⟨90, _⟩ => ⟨S_, .f32⟩
  | .hbm, ⟨91, _⟩ => ⟨S2x16384x1, .f32⟩
  | .hbm, ⟨92, _⟩ => ⟨S2x16384x1, .f32⟩
  | .hbm, ⟨93, _⟩ => ⟨S_, .f32⟩
  | .hbm, ⟨94, _⟩ => ⟨S2x16384x1, .f32⟩
  | .hbm, ⟨95, _⟩ => ⟨S2x16384x1, .f32⟩
  | .hbm, ⟨96, _⟩ => ⟨S2x16384x1, .f32⟩
  | .hbm, ⟨97, _⟩ => ⟨S2x16384x1024, .f32⟩
  | .hbm, ⟨98, _⟩ => ⟨S2x16384x1024, .f32⟩
  | .hbm, ⟨99, _⟩ => ⟨S1x1x1024, .f32⟩
  | .hbm, ⟨100, _⟩ => ⟨S2x16384x1024, .f32⟩
  | .hbm, ⟨101, _⟩ => ⟨S2x16384x1024, .f32⟩
  | .hbm, ⟨102, _⟩ => ⟨S2x16384x1024, .f32⟩
  | .hbm, ⟨103, _⟩ => ⟨S1024, .f32⟩
  | .hbm, ⟨104, _⟩ => ⟨S1x1x1024, .f32⟩
  | .hbm, ⟨105, _⟩ => ⟨S2x16384x1024, .f32⟩
  | .hbm, ⟨106, _⟩ => ⟨S2x16384x1024, .f32⟩
  | .hbm, ⟨107, _⟩ => ⟨S2x16384x1024, .f32⟩
  | .hbm, ⟨108, _⟩ => ⟨S2x16384x1024, .f32⟩
  | .hbm, ⟨109, _⟩ => ⟨S_, .f32⟩
  | .hbm, ⟨110, _⟩ => ⟨S2x16384x1024, .f32⟩
  | .hbm, ⟨111, _⟩ => ⟨S2x16384x1024, .f32⟩
  | .hbm, ⟨112, _⟩ => ⟨S_, .f32⟩
  | .hbm, ⟨113, _⟩ => ⟨S2x16384x1024, .f32⟩
  | .hbm, ⟨114, _⟩ => ⟨S2x16384x1024, .f32⟩
  | .hbm, ⟨115, _⟩ => ⟨S2x16384x1024, .f32⟩
  | .hbm, ⟨116, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_2 : Ref sig .tc := ⟨.hbm, 74, rfl⟩
abbrev main_v55 : Ref sig .tc := ⟨.hbm, 75, rfl⟩
abbrev main_v56 : Ref sig .tc := ⟨.hbm, 76, rfl⟩
abbrev main_cst_3 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_4 : Ref sig .tc := ⟨.hbm, 87, rfl⟩
abbrev main_v66 : Ref sig .tc := ⟨.hbm, 88, rfl⟩
abbrev main_v67 : Ref sig .tc := ⟨.hbm, 89, rfl⟩
abbrev main_cst_5 : Ref sig .tc := ⟨.hbm, 90, rfl⟩
abbrev main_v68 : Ref sig .tc := ⟨.hbm, 91, rfl⟩
abbrev main_v69 : Ref sig .tc := ⟨.hbm, 92, rfl⟩
abbrev main_cst_6 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_7 : Ref sig .tc := ⟨.hbm, 109, rfl⟩
abbrev main_v85 : Ref sig .tc := ⟨.hbm, 110, rfl⟩
abbrev main_v86 : Ref sig .tc := ⟨.hbm, 111, rfl⟩
abbrev main_cst_8 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x16384x512 : Shape := ⟨3, ![1, 16384, 512]⟩
abbrev S1x4x16384x128 : Shape := ⟨4, ![1, 4, 16384, 128]⟩
abbrev S1x16384x256 : Shape := ⟨3, ![1, 16384, 256]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S256x1024 : Shape := ⟨2, ![256, 1024]⟩
abbrev S1x512x1024 : Shape := ⟨3, ![1, 512, 1024]⟩
abbrev S1x16x1024 : Shape := ⟨3, ![1, 16, 1024]⟩
abbrev S1x512x512 : Shape := ⟨3, ![1, 512, 512]⟩
abbrev S1x16x512 : Shape := ⟨3, ![1, 16, 512]⟩
abbrev S1x4x512x128 : Shape := ⟨4, ![1, 4, 512, 128]⟩
abbrev S1x4x16x128 : Shape := ⟨4, ![1, 4, 16, 128]⟩
abbrev S1x512x256 : Shape := ⟨3, ![1, 512, 256]⟩
abbrev S4x2x2x528x128 : Shape := ⟨5, ![4, 2, 2, 528, 128]⟩
abbrev S8x512x128 : Shape := ⟨3, ![8, 512, 128]⟩
abbrev S16x1024 : Shape := ⟨2, ![16, 1024]⟩
abbrev S512x1024 : Shape := ⟨2, ![512, 1024]⟩
abbrev S544x1024 : Shape := ⟨2, ![544, 1024]⟩
abbrev S16x512 : Shape := ⟨2, ![16, 512]⟩
abbrev S512x512 : Shape := ⟨2, ![512, 512]⟩
abbrev S544x512 : Shape := ⟨2, ![544, 512]⟩
abbrev S1x1x16x128 : Shape := ⟨4, ![1, 1, 16, 128]⟩
abbrev S16x128 : Shape := ⟨2, ![16, 128]⟩
abbrev S1x1x512x128 : Shape := ⟨4, ![1, 1, 512, 128]⟩
abbrev S512x128 : Shape := ⟨2, ![512, 128]⟩
abbrev S544x128 : Shape := ⟨2, ![544, 128]⟩
abbrev S544x1 : Shape := ⟨2, ![544, 1]⟩
abbrev S512x256 : Shape := ⟨2, ![512, 256]⟩
abbrev S512 : Shape := ⟨1, ![512]⟩
abbrev S512x1 : Shape := ⟨2, ![512, 1]⟩
abbrev S544 : Shape := ⟨1, ![544]⟩
abbrev S528x1024 : Shape := ⟨2, ![528, 1024]⟩
abbrev S1024x256 : Shape := ⟨2, ![1024, 256]⟩
abbrev S528x256 : Shape := ⟨2, ![528, 256]⟩
abbrev S528x128 : Shape := ⟨2, ![528, 128]⟩
abbrev S1x1x1x528x128 : Shape := ⟨5, ![1, 1, 1, 528, 128]⟩
abbrev S3x128 : Shape := ⟨2, ![3, 128]⟩
abbrev S1x128 : Shape := ⟨2, ![1, 128]⟩
abbrev S1x1x1x256x128 : Shape := ⟨5, ![1, 1, 1, 256, 128]⟩
abbrev S256x128 : Shape := ⟨2, ![256, 128]⟩
abbrev S1x256x128 : Shape := ⟨3, ![1, 256, 128]⟩
abbrev S1x512x128 : Shape := ⟨3, ![1, 512, 128]⟩

abbrev nBuf : Space → Nat
  | .hbm => 15
  | .vmem => 34
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .bf16⟩
  | .hbm, ⟨2, _⟩ => ⟨S1x4x16384x128, .f32⟩
  | .hbm, ⟨3, _⟩ => ⟨S1x16384x256, .f32⟩
  | .hbm, ⟨4, _⟩ => ⟨S1024x1024, .bf16⟩
  | .hbm, ⟨5, _⟩ => ⟨S1x1024, .f32⟩
  | .hbm, ⟨6, _⟩ => ⟨S1024x5632, .bf16⟩
  | .hbm, ⟨7, _⟩ => ⟨S3x5632, .f32⟩
  | .hbm, ⟨8, _⟩ => ⟨S1x5632, .f32⟩
  | .hbm, ⟨9, _⟩ => ⟨S2816x1024, .bf16⟩
  | .hbm, ⟨10, _⟩ => ⟨S256x1024, .bf16⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S1x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x512x512, .bf16⟩
  | .local _ .vmem, ⟨7, _⟩ => ⟨S1x512x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x4x512x128, .f32⟩
  | .local _ .vmem, ⟨13, _⟩ => ⟨S1x4x512x128, .f32⟩
  | .local _ .vmem, ⟨14, _⟩ => ⟨S1x4x16x128, .f32⟩
  | .local _ .vmem, ⟨15, _⟩ => ⟨S1x4x16x128, .f32⟩
  | .local _ .vmem, ⟨16, _⟩ => ⟨S1x4x16x128, .f32⟩
  | .local _ .vmem, ⟨17, _⟩ => ⟨S1x4x16x128, .f32⟩
  | .local _ .vmem, ⟨18, _⟩ => ⟨S1x512x256, .f32⟩
  | .local _ .vmem, ⟨19, _⟩ => ⟨S1x512x256, .f32⟩
  | .local _ .vmem, ⟨20, _⟩ => ⟨S1024x1024, .bf16⟩
  | .local _ .vmem, ⟨21, _⟩ => ⟨S1x1024, .f32⟩
  | .local _ .vmem, ⟨22, _⟩ => ⟨S1024x5632, .bf16⟩
  | .local _ .vmem, ⟨23, _⟩ => ⟨S3x5632, .f32⟩
  | .local _ .vmem, ⟨24, _⟩ => ⟨S1x5632, .f32⟩
  | .local _ .vmem, ⟨25, _⟩ => ⟨S2816x1024, .bf16⟩
  | .local _ .vmem, ⟨26, _⟩ => ⟨S256x1024, .bf16⟩
  | .local _ .vmem, ⟨27, _⟩ => ⟨S1x1024, .f32⟩
  | .local _ .vmem, ⟨28, _⟩ => ⟨S1024x1024, .bf16⟩
  | .local _ .vmem, ⟨29, _⟩ => ⟨S1x1024, .f32⟩
  | .local _ .vmem, ⟨30, _⟩ => ⟨S1x512x1024, .f32⟩
  | .local _ .vmem, ⟨31, _⟩ => ⟨S1x512x1024, .f32⟩
  | .local _ .vmem, ⟨32, _⟩ => ⟨S4x2x2x528x128, .f32⟩
  | .local _ .vmem, ⟨33, _⟩ => ⟨S8x512x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![arg0.toNat, c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S1x16384x1024 : Shape := ⟨3, ![1, 16384, 1024]⟩
abbrev S1x16384x512 : Shape := ⟨3, ![1, 16384, 512]⟩
abbrev S1x4x16384x128 : Shape := ⟨4, ![1, 4, 16384, 128]⟩
abbrev S1x16384x256 : Shape := ⟨3, ![1, 16384, 256]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S256x1024 : Shape := ⟨2, ![256, 1024]⟩
abbrev S1x16384x4x128 : Shape := ⟨4, ![1, 16384, 4, 128]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x5632 : Shape := ⟨3, ![1, 16384, 5632]⟩
abbrev S1x16386x5632 : Shape := ⟨3, ![1, 16386, 5632]⟩
abbrev S5632 : Shape := ⟨1, ![5632]⟩
abbrev S1x1x5632 : Shape := ⟨3, ![1, 1, 5632]⟩
abbrev S1x16384x2816 : Shape := ⟨3, ![1, 16384, 2816]⟩

abbrev nBuf : Space → Nat
  | .hbm => 117
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .bf16⟩
  | .hbm, ⟨2, _⟩ => ⟨S1x4x16384x128, .f32⟩
  | .hbm, ⟨3, _⟩ => ⟨S1x16384x256, .f32⟩
  | .hbm, ⟨4, _⟩ => ⟨S1024x1024, .bf16⟩
  | .hbm, ⟨5, _⟩ => ⟨S1x1024, .f32⟩
  | .hbm, ⟨6, _⟩ => ⟨S1024x5632, .bf16⟩
  | .hbm, ⟨7, _⟩ => ⟨S3x5632, .f32⟩
  | .hbm, ⟨8, _⟩ => ⟨S1x5632, .f32⟩
  | .hbm, ⟨9, _⟩ => ⟨S2816x1024, .bf16⟩
  | .hbm, ⟨10, _⟩ => ⟨S256x1024, .bf16⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S1024x1024, .f32⟩
  | .hbm, ⟨15, _⟩ => ⟨S1024x5632, .f32⟩
  | .hbm, ⟨16, _⟩ => ⟨S2816x1024, .f32⟩
  | .hbm, ⟨17, _⟩ => ⟨S256x1024, .f32⟩
  | .hbm, ⟨18, _⟩ => ⟨S1024x1024, .f32⟩
  | .hbm, ⟨19, _⟩ => ⟨S1x16384x512, .f32⟩
  | .hbm, ⟨20, _⟩ => ⟨S1x16384x4x128, .f32⟩
  | .hbm, ⟨21, _⟩ => ⟨S1x16384x512, .f32⟩
  | .hbm, ⟨22, _⟩ => ⟨S1x16384x1024, .f32⟩
  | .hbm, ⟨23, _⟩ => ⟨S1x16384x1024, .f32⟩
  | .hbm, ⟨24, _⟩ => ⟨S1x16384x1024, .f32⟩
  | .hbm, ⟨25, _⟩ => ⟨S1024, .f32⟩
  | .hbm, ⟨26, _⟩ => ⟨S1x16384x1024, .f32⟩
  | .hbm, ⟨27, _⟩ => ⟨S_, .f32⟩
  | .hbm, ⟨28, _⟩ => ⟨S1x16384, .f32⟩
  | .hbm, ⟨29, _⟩ => ⟨S1x16384x1, .f32⟩
  | .hbm, ⟨30, _⟩ => ⟨S_, .f32⟩
  | .hbm, ⟨31, _⟩ => ⟨S1x16384x1, .f32⟩
  | .hbm, ⟨32, _⟩ => ⟨S1x16384x1, .f32⟩
  | .hbm, ⟨33, _⟩ => ⟨S_, .f32⟩
  | .hbm, ⟨34, _⟩ => ⟨S1x16384x1, .f32⟩
  | .hbm, ⟨35, _⟩ => ⟨S1x16384x1, .f32⟩
  | .hbm, ⟨36, _⟩ => ⟨S1x16384x1, .f32⟩
  | .hbm, ⟨37, _⟩ => ⟨S1x16384x1024, .f32⟩
  | .hbm, ⟨38, _⟩ => ⟨S1x16384x1024, .f32⟩
  | .hbm, ⟨39, _⟩ => ⟨S1x1x1024, .f32⟩
  | .hbm, ⟨40, _⟩ => ⟨S1x16384x1024, .f32⟩
  | .hbm, ⟨41, _⟩ => ⟨S1x16384x1024, .f32⟩
  | .hbm, ⟨42, _⟩ => ⟨S1x16384x5632, .f32⟩
  | .hbm, ⟨43, _⟩ => ⟨S_, .i32⟩
  | .hbm, ⟨44, _⟩ => ⟨S_, .f32⟩
  | .hbm, ⟨45, _⟩ => ⟨S1x16386x5632, .f32⟩
  | .hbm, ⟨46, _⟩ => ⟨S1x16384x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S1x16384x5632, .f32⟩
  | .hbm, ⟨51, _⟩ => ⟨S1x16384x5632, .f32⟩
  | .hbm, ⟨52, _⟩ => ⟨S1x16384x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S1x16384x5632, .f32⟩
  | .hbm, ⟨57, _⟩ => ⟨S1x16384x5632, .f32⟩
  | .hbm, ⟨58, _⟩ => ⟨S1x16384x5632, .f32⟩
  | .hbm, ⟨59, _⟩ => ⟨S1x16384x5632, .f32⟩
  | .hbm, ⟨60, _⟩ => ⟨S1x5632, .f32⟩
  | .hbm, ⟨61, _⟩ => ⟨S5632, .f32⟩
  | .hbm, ⟨62, _⟩ => ⟨S1x1x5632, .f32⟩
  | .hbm, ⟨63, _⟩ => ⟨S1x16384x5632, .f32⟩
  | .hbm, ⟨64, _⟩ => ⟨S1x16384x5632, .f32⟩
  | .hbm, ⟨65, _⟩ => ⟨S1x16384x5632, .f32⟩
  | .hbm, ⟨66, _⟩ => ⟨S5632, .f32⟩
  | .hbm, ⟨67, _⟩ => ⟨S1x1x5632, .f32⟩
  | .hbm, ⟨68, _⟩ => ⟨S1x16384x5632, .f32⟩
  | .hbm, ⟨69, _⟩ => ⟨S1x16384x5632, .f32⟩
  | .hbm, ⟨70, _⟩ => ⟨S1x16384x2816, .f32⟩
  | .hbm, ⟨71, _⟩ => ⟨S1x16384x2816, .f32⟩
  | .hbm, ⟨72, _⟩ => ⟨S1x16384x2816, .f32⟩
  | .hbm, ⟨73, _⟩ => ⟨S1x16384x2816, .f32⟩
  | .hbm, ⟨74, _⟩ => ⟨S_, .f32⟩
  | .hbm, ⟨75, _⟩ => ⟨S1x16384x2816, .f32⟩
  | .hbm, ⟨76, _⟩ => ⟨S1x16384x2816, .f32⟩
  | .hbm, ⟨77, _⟩ => ⟨S_, .f32⟩
  | .hbm, ⟨78, _⟩ => ⟨S1x16384x2816, .f32⟩
  | .hbm, ⟨79, _⟩ => ⟨S1x16384x2816, .f32⟩
  | .hbm, ⟨80, _⟩ => ⟨S1x16384x2816, .f32⟩
  | .hbm, ⟨81, _⟩ => ⟨S1x16384x2816, .f32⟩
  | .hbm, ⟨82, _⟩ => ⟨S1x16384x1024, .f32⟩
  | .hbm, ⟨83, _⟩ => ⟨S1x16384x1024, .f32⟩
  | .hbm, ⟨84, _⟩ => ⟨S1x16384x1024, .f32⟩
  | .hbm, ⟨85, _⟩ => ⟨S1024, .f32⟩
  | .hbm, ⟨86, _⟩ => ⟨S1x16384x1024, .f32⟩
  | .hbm, ⟨87, _⟩ => ⟨S_, .f32⟩
  | .hbm, ⟨88, _⟩ => ⟨S1x16384, .f32⟩
  | .hbm, ⟨89, _⟩ => ⟨S1x16384x1, .f32⟩
  | .hbm, ⟨90, _⟩ => ⟨S_, .f32⟩
  | .hbm, ⟨91, _⟩ => ⟨S1x16384x1, .f32⟩
  | .hbm, ⟨92, _⟩ => ⟨S1x16384x1, .f32⟩
  | .hbm, ⟨93, _⟩ => ⟨S_, .f32⟩
  | .hbm, ⟨94, _⟩ => ⟨S1x16384x1, .f32⟩
  | .hbm, ⟨95, _⟩ => ⟨S1x16384x1, .f32⟩
  | .hbm, ⟨96, _⟩ => ⟨S1x16384x1, .f32⟩
  | .hbm, ⟨97, _⟩ => ⟨S1x16384x1024, .f32⟩
  | .hbm, ⟨98, _⟩ => ⟨S1x16384x1024, .f32⟩
  | .hbm, ⟨99, _⟩ => ⟨S1x1x1024, .f32⟩
  | .hbm, ⟨100, _⟩ => ⟨S1x16384x1024, .f32⟩
  | .hbm, ⟨101, _⟩ => ⟨S1x16384x1024, .f32⟩
  | .hbm, ⟨102, _⟩ => ⟨S1x16384x1024, .f32⟩
  | .hbm, ⟨103, _⟩ => ⟨S1024, .f32⟩
  | .hbm, ⟨104, _⟩ => ⟨S1x1x1024, .f32⟩
  | .hbm, ⟨105, _⟩ => ⟨S1x16384x1024, .f32⟩
  | .hbm, ⟨106, _⟩ => ⟨S1x16384x1024, .f32⟩
  | .hbm, ⟨107, _⟩ => ⟨S1x16384x1024, .f32⟩
  | .hbm, ⟨108, _⟩ => ⟨S1x16384x1024, .f32⟩
  | .hbm, ⟨109, _⟩ => ⟨S_, .f32⟩
  | .hbm, ⟨110, _⟩ => ⟨S1x16384x1024, .f32⟩
  | .hbm, ⟨111, _⟩ => ⟨S1x16384x1024, .f32⟩
  | .hbm, ⟨112, _⟩ => ⟨S_, .f32⟩
  | .hbm, ⟨113, _⟩ => ⟨S1x16384x1024, .f32⟩
  | .hbm, ⟨114, _⟩ => ⟨S1x16384x1024, .f32⟩
  | .hbm, ⟨115, _⟩ => ⟨S1x16384x1024, .f32⟩
  | .hbm, ⟨116, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_2 : Ref sig .tc := ⟨.hbm, 74, rfl⟩
abbrev main_v55 : Ref sig .tc := ⟨.hbm, 75, rfl⟩
abbrev main_v56 : Ref sig .tc := ⟨.hbm, 76, rfl⟩
abbrev main_cst_3 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_4 : Ref sig .tc := ⟨.hbm, 87, rfl⟩
abbrev main_v66 : Ref sig .tc := ⟨.hbm, 88, rfl⟩
abbrev main_v67 : Ref sig .tc := ⟨.hbm, 89, rfl⟩
abbrev main_cst_5 : Ref sig .tc := ⟨.hbm, 90, rfl⟩
abbrev main_v68 : Ref sig .tc := ⟨.hbm, 91, rfl⟩
abbrev main_v69 : Ref sig .tc := ⟨.hbm, 92, rfl⟩
abbrev main_cst_6 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_7 : Ref sig .tc := ⟨.hbm, 109, rfl⟩
abbrev main_v85 : Ref sig .tc := ⟨.hbm, 110, rfl⟩
abbrev main_v86 : Ref sig .tc := ⟨.hbm, 111, rfl⟩
abbrev main_cst_8 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== Proof.Attn.Block.lean ====
/- What the attention kernel's body computes for one block of 128 queries, in the operations of the printed program: `blk`
   at block `j` of the tile. Every one of the eight stored pieces is `blk` at its number (`pieces`). -/
module

public import proofs.«01_k».proof.Proof.Gen.KernelIdeal.Frame

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] [Named F]

theorem slKV (j : ℕ) (hj : j < 8) : S1280x128.Slices ![128 * j, 0] S384x128 := by
  interval_cases j <;> decide
theorem slS (h : ℕ) (hh : h < 4) : S512x384.Slices ![128 * h, 0] S128x384 := by
  interval_cases h <;> decide
theorem slO (h : ℕ) (hh : h < 4) : S512x128.Slices ![128 * h, 0] S128x128 := by
  interval_cases h <;> decide
theorem inbQ (j h : ℕ) (hj : j < 8) (hh : h < 4) :
    ∀ a, (![0, 128 * j, 128 * h] : Fin 3 → Nat) a + S1x128x128.size a ≤ S1x1024x512.size a := by
  intro a; fin_cases a
  · show 0 + 1 ≤ 1; omega
  · show 128 * j + 128 ≤ 1024; omega
  · show 128 * h + 128 ≤ 512; omega
theorem inbO (j : ℕ) (hj : j < 8) :
    ∀ a, (![0, 128 * j, 0] : Fin 3 → Nat) a + S1x128x512.size a ≤ S1x1024x512.size a := by
  intro a; fin_cases a
  · show 0 + 1 ≤ 1; omega
  · show 128 * j + 128 ≤ 1024; omega
  · show 0 + 512 ≤ 512; omega
theorem inbS (k : ℕ) (hk : k < 8) : ∀ a, (![k] : Fin 1 → Nat) a + S1.size a ≤ S8.size a := by
  intro a; fin_cases a; show k + 1 ≤ 8; omega

/-- The lanes of the other group, where the group's own are `k0_pay5`. -/
def high : IVec S128x128 1 := xori k0_pay5 (constantI S128x128 1 1#1)

/-- A tile of queries with the other group's lanes zeroed. -/
def qtile (sel : IVec S128x128 1) (q : Vec F S1x128x128 .bf16) : FVec F S128x128 .bf16 :=
  select sel (shapeCast S128x128 q shapeCasts_S1x128x128_S128x128) (broadcast S128x128 (Scalar.ofBits .bf16 0x0000#16))

/-- The four heads' logits of a group against the 384 keys around the block. -/
def scores (sel : IVec S128x128 1) (kw : FVec F S384x128 .bf16) (q : (h : ℕ) → h < 4 → Vec F S1x128x128 .bf16) : FVec F S512x384 .f32 :=
  matmul dot_S512x128_S384x128_S512x384_1_1_0_0_n_n none
    (concatenate S512x128 0 [⟨S128x128, qtile sel (q 0 (by omega))⟩, ⟨S128x128, qtile sel (q 1 (by omega))⟩,
      ⟨S128x128, qtile sel (q 2 (by omega))⟩, ⟨S128x128, qtile sel (q 3 (by omega))⟩]
      concatenates_S128x128_S128x128_S128x128_S128x128_S512x128_d0)
    kw (constant S512x384 .f32 0x00000000#32)

/-- Which of the previous block's keys are seen, and of the next one's: `b` is the block's number in the sequence. -/
def mprev (b : BitVec 32) : IVec S128x128 1 :=
  cmpi .sge k0_pay4 (broadcast S128x128 (Scalar.select (Scalar.cmpi .sgt b 0#32) 0#32 128#32))
def mnext (b : BitVec 32) : IVec S128x128 1 :=
  cmpi .sle k0_pay4 (broadcast S128x128 (Scalar.select (Scalar.cmpi .slt b 127#32) 0#32 4294967168#32))

/-- One head's logits, the unseen ones at minus infinity. -/
def masked (b : BitVec 32) (s : FVec F S512x384 .f32) (h : ℕ) (hh : h < 4) : FVec F S128x384 .f32 :=
  concatenate S128x384 1
    [⟨S128x128, select (mprev b) (extractStridedSlice S128x128 ![0, 0] (extractStridedSlice S128x384 ![128 * h, 0] s (slS h hh)) slices_S128x384_o0_0_S128x128)
        (broadcast S128x128 (Scalar.ofBits .f32 0xFF800000#32))⟩,
     ⟨S128x128, extractStridedSlice S128x128 ![0, 128] (extractStridedSlice S128x384 ![128 * h, 0] s (slS h hh)) slices_S128x384_o0_128_S128x128⟩,
     ⟨S128x128, select (mnext b) (extractStridedSlice S128x128 ![0, 256] (extractStridedSlice S128x384 ![128 * h, 0] s (slS h hh)) slices_S128x384_o0_256_S128x128)
        (broadcast S128x128 (Scalar.ofBits .f32 0xFF800000#32))⟩]
    concatenates_S128x128_S128x128_S128x128_S128x384_d1

/-- The sink's logit in base 2. -/
def sink2 (a : Elt F .f32) : F .f32 := Scalar.mulf a (Named.named κ "log2e" 0x3FB8AA3B#32)

/-- The row maxima with the sink's, the weights, and the inverse of their total. -/
def vmax (x : FVec F S128x384 .f32) (sk : F .f32) : FVec F S128x1 .f32 :=
  maximumf (shapeCast S128x1 (multiReduction .maximumf [1] S128 x 0xFF800000#32 reduces_S128x384_S128 (.inl rfl) rfl) shapeCasts_S128_S128x1)
    (broadcast S128x1 sk)
def vprob (x : FVec F S128x384 .f32) (sk : F .f32) : FVec F S128x384 .f32 :=
  exp2 (subf x (broadcastTo S128x384 (vmax x sk) broadcasts_S128x1_S128x384))
def vinv (x : FVec F S128x384 .f32) (sk : F .f32) : FVec F S128x1 .f32 :=
  divf (broadcast S128x1 (Scalar.ofBits .f32 0x3F800000#32))
    (addf (shapeCast S128x1 (multiReduction .add [1] S128 (vprob x sk) 0x00000000#32 reduces_S128x384_S128 (.inl rfl) rfl) shapeCasts_S128_S128x1)
      (exp2 (subf (broadcast S128x1 sk) (vmax x sk))))

/-- The weighted values of the group's four heads, -/
def vpv (x : (h : ℕ) → h < 4 → FVec F S128x384 .f32) (sk : (h : ℕ) → h < 4 → F .f32) (vw : FVec F S384x128 .bf16) : FVec F S512x128 .f32 :=
  matmul dot_S512x384_S384x128_S512x128_1_0_0_1_n_n none
    (concatenate S512x384 0
      [⟨S128x384, truncf .bf16 (vprob (x 0 (by omega)) (sk 0 (by omega))) bitsLt_bf16_f32⟩,
       ⟨S128x384, truncf .bf16 (vprob (x 1 (by omega)) (sk 1 (by omega))) bitsLt_bf16_f32⟩,
       ⟨S128x384, truncf .bf16 (vprob (x 2 (by omega)) (sk 2 (by omega))) bitsLt_bf16_f32⟩,
       ⟨S128x384, truncf .bf16 (vprob (x 3 (by omega)) (sk 3 (by omega))) bitsLt_bf16_f32⟩]
      concatenates_S128x384_S128x384_S128x384_S128x384_S512x384_d0)
    vw (constant S512x128 .f32 0x00000000#32)

/-- and one head's, divided by its total. -/
def vhead (x : (h : ℕ) → h < 4 → FVec F S128x384 .f32) (sk : (h : ℕ) → h < 4 → F .f32) (vw : FVec F S384x128 .bf16) (h : ℕ) (hh : h < 4) :
    FVec F S128x128 .f32 :=
  mulf (extractStridedSlice S128x128 ![128 * h, 0] (vpv x sk vw) (slO h hh))
    (broadcastTo S128x128 (vinv (x h hh) (sk h hh)) broadcasts_S128x1_S128x128)

/-- The 512 output lanes of the block, before the normalisation. -/
def vcat (a b : (h : ℕ) → h < 4 → FVec F S128x128 .f32) : FVec F S128x512 .f32 :=
  concatenate S128x512 1
    [⟨S128x128, select k0_pay5 (a 0 (by omega)) (b 0 (by omega))⟩, ⟨S128x128, select k0_pay5 (a 1 (by omega)) (b 1 (by omega))⟩,
     ⟨S128x128, select k0_pay5 (a 2 (by omega)) (b 2 (by omega))⟩, ⟨S128x128, select k0_pay5 (a 3 (by omega)) (b 3 (by omega))⟩]
    concatenates_S128x128_S128x128_S128x128_S128x128_S128x512_d1

/-- The normalised block as stored. -/
def vnorm (gain : Vec F S1x512 .f32) (y : FVec F S128x512 .f32) : FVec F S1x128x512 .bf16 :=
  shapeCast S1x128x512 (truncf .bf16 (mulf (mulf y (broadcastTo S128x512 (rsqrt (addf (mulf
    (shapeCast S128x1 (multiReduction .add [1] S128 (mulf y y) 0x00000000#32 reduces_S128x512_S128 (.inl rfl) rfl) shapeCasts_S128_S128x1)
    (broadcast S128x1 (Scalar.ofBits .f32 0x3B000000#32))) (broadcast S128x1 (Scalar.ofBits .f32 0x358637BD#32)))) broadcasts_S128x1_S128x512))
    (broadcastTo S128x512 gain broadcasts_S1x512_S128x512)) bitsLt_bf16_f32) shapeCasts_S128x512_S1x128x512

/-- The heads of one group: its lanes, its logits' mask and its sinks (from number `o`). -/
def group (sel : IVec S128x128 1) (o : ℕ) (ho : o + 4 ≤ 8) (b : BitVec 32) (kw vw : FVec F S384x128 .bf16)
    (q : (h : ℕ) → h < 4 → Vec F S1x128x128 .bf16) (sk : (k : ℕ) → k < 8 → Elt F .f32) (h : ℕ) (hh : h < 4) : FVec F S128x128 .f32 :=
  vhead (fun h hh => masked b (scores sel kw q) h hh) (fun h hh => sink2 (sk (o + h) (by omega))) vw h hh

/-- BLOCK `j` of the tile: keys and values of the tile with a block on either side, the tile's queries, the sinks, the gain. -/
def blk (i : BitVec 32) (kc vc : FVec F S1280x128 .bf16) (q : (j h : ℕ) → j < 8 → h < 4 → Vec F S1x128x128 .bf16)
    (sk : (k : ℕ) → k < 8 → Elt F .f32) (gain : Vec F S1x512 .f32) (j : ℕ) (hj : j < 8) : FVec F S1x128x512 .bf16 :=
  vnorm gain (vcat
    (group k0_pay5 0 (by omega) (Scalar.addi (Scalar.muli i 8#32) (BitVec.ofNat 32 j)) (extractStridedSlice S384x128 ![128 * j, 0] kc (slKV j hj))
      (extractStridedSlice S384x128 ![128 * j, 0] vc (slKV j hj)) (fun h hh => q j h hj hh) sk)
    (group high 4 (by omega) (Scalar.addi (Scalar.muli i 8#32) (BitVec.ofNat 32 j)) (extractStridedSlice S384x128 ![128 * j, 0] kc (slKV j hj))
      (extractStridedSlice S384x128 ![128 * j, 0] vc (slKV j hj)) (fun h hh => q j h hj hh) sk))

/-- A load from a staging buffer that holds `x`. -/
def rd {sp : Space} {S : Shape} {e : EltTy} (a : Memref sig .tc sp S e) (h : a.IsWhole) (x : Vec F S e) (r : Rect S) : r.shape.Idx → Elt F e :=
  View.readAt (Elt F) a.view r.toLoadRect (h.unread x)

theorem rd_eq {sp : Space} {S : Shape} {e : EltTy} (a : Memref sig .tc sp S e) (h : a.IsWhole) (x : Vec F S e) (r : Rect S) :
    rd a h x r = View.ld x r := by
  unfold rd; rw [View.readAt_eq_ld, h.read_unread]

section
variable (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S1x512 .f32) (harg10 : arg10.IsWhole) (arg11 : Memref sig .tc .vmem S1x1024x512 .bf16) (harg11 : arg11.IsWhole)
    (x0 : Vec F S8 .f32) (x1 : Vec F S1x1024x512 .bf16) (x2 : Vec F S1x128x128 .bf16) (x3 : Vec F S1x1024x128 .bf16) (x4 : Vec F S1x128x128 .bf16) (x5 : Vec F S1x128x128 .bf16) (x6 : Vec F S1x1024x128 .bf16) (x7 : Vec F S1x128x128 .bf16) (x8 : Vec F S1x512 .f32)

/-- Block `j` over the staged input blocks, loads as they are made. -/
def blkRd (j : ℕ) (hj : j < 8) : FVec F S1x128x512 .bf16 :=
  blk (BitVec.ofNat 32 (i 1).val)
    (k0_pay2 (rd arg4 harg4 x2 (Rect.unit (s := S1x128x128) ![0, 0, 0] S1x128x128.size inb_S1x128x128_S1x128x128_0_0_0))
      (rd arg5 harg5 x3 (Rect.unit (s := S1x1024x128) ![0, 0, 0] S1x1024x128.size inb_S1x1024x128_S1x1024x128_0_0_0))
      (rd arg6 harg6 x4 (Rect.unit (s := S1x128x128) ![0, 0, 0] S1x128x128.size inb_S1x128x128_S1x128x128_0_0_0)))
    (k0_pay3 (rd arg7 harg7 x5 (Rect.unit (s := S1x128x128) ![0, 0, 0] S1x128x128.size inb_S1x128x128_S1x128x128_0_0_0))
      (rd arg8 harg8 x6 (Rect.unit (s := S1x1024x128) ![0, 0, 0] S1x1024x128.size inb_S1x1024x128_S1x1024x128_0_0_0))
      (rd arg9 harg9 x7 (Rect.unit (s := S1x128x128) ![0, 0, 0] S1x128x128.size inb_S1x128x128_S1x128x128_0_0_0)))
    (fun j h hj hh => rd arg3 harg3 x1 (Rect.unit (s := S1x1024x512) ![0, 128 * j, 128 * h] S1x128x128.size (inbQ j h hj hh)))
    (fun k hk => rd arg2 harg2 x0 (Rect.unit (s := S8) ![k] S1.size (inbS k hk)) (Shape.Idx.first (numel1_S1 ▸ Nat.one_pos)))
    (rd arg10 harg10 x8 (Rect.unit (s := S1x512) ![0, 0] S1x512.size inb_S1x512_S1x512_0_0)) j hj

/-- The body's eight stores, last first. -/
theorem pieces :
    (kernelRun0_A c i arg2 harg2 arg3 harg3 arg4 harg4 arg5 harg5 arg6 harg6 arg7 harg7 arg8 harg8 arg9 harg9 arg10 harg10 arg11 harg11 x0 x1 x2 x3 x4 x5 x6 x7 x8).1
      = [⟨Rect.unit ![0, 128 * 7, 0] ![1, 128, 512] (inbO 7 (by omega)), blkRd i arg2 harg2 arg3 harg3 arg4 harg4 arg5 harg5 arg6 harg6 arg7 harg7 arg8 harg8 arg9 harg9 arg10 harg10 x0 x1 x2 x3 x4 x5 x6 x7 x8 7 (by omega)⟩,
         ⟨Rect.unit ![0, 128 * 6, 0] ![1, 128, 512] (inbO 6 (by omega)), blkRd i arg2 harg2 arg3 harg3 arg4 harg4 arg5 harg5 arg6 harg6 arg7 harg7 arg8 harg8 arg9 harg9 arg10 harg10 x0 x1 x2 x3 x4 x5 x6 x7 x8 6 (by omega)⟩,
         ⟨Rect.unit ![0, 128 * 5, 0] ![1, 128, 512] (inbO 5 (by omega)), blkRd i arg2 harg2 arg3 harg3 arg4 harg4 arg5 harg5 arg6 harg6 arg7 harg7 arg8 harg8 arg9 harg9 arg10 harg10 x0 x1 x2 x3 x4 x5 x6 x7 x8 5 (by omega)⟩,
         ⟨Rect.unit ![0, 128 * 4, 0] ![1, 128, 512] (inbO 4 (by omega)), blkRd i arg2 harg2 arg3 harg3 arg4 harg4 arg5 harg5 arg6 harg6 arg7 harg7 arg8 harg8 arg9 harg9 arg10 harg10 x0 x1 x2 x3 x4 x5 x6 x7 x8 4 (by omega)⟩,
         ⟨Rect.unit ![0, 128 * 3, 0] ![1, 128, 512] (inbO 3 (by omega)), blkRd i arg2 harg2 arg3 harg3 arg4 harg4 arg5 harg5 arg6 harg6 arg7 harg7 arg8 harg8 arg9 harg9 arg10 harg10 x0 x1 x2 x3 x4 x5 x6 x7 x8 3 (by omega)⟩,
         ⟨Rect.unit ![0, 128 * 2, 0] ![1, 128, 512] (inbO 2 (by omega)), blkRd i arg2 harg2 arg3 harg3 arg4 harg4 arg5 harg5 arg6 harg6 arg7 harg7 arg8 harg8 arg9 harg9 arg10 harg10 x0 x1 x2 x3 x4 x5 x6 x7 x8 2 (by omega)⟩,
         ⟨Rect.unit ![0, 128 * 1, 0] ![1, 128, 512] (inbO 1 (by omega)), blkRd i arg2 harg2 arg3 harg3 arg4 harg4 arg5 harg5 arg6 harg6 arg7 harg7 arg8 harg8 arg9 harg9 arg10 harg10 x0 x1 x2 x3 x4 x5 x6 x7 x8 1 (by omega)⟩,
         ⟨Rect.unit ![0, 128 * 0, 0] ![1, 128, 512] (inbO 0 (by omega)), blkRd i arg2 harg2 arg3 harg3 arg4 harg4 arg5 harg5 arg6 harg6 arg7 harg7 arg8 harg8 arg9 harg9 arg10 harg10 x0 x1 x2 x3 x4 x5 x6 x7 x8 0 (by omega)⟩] := rfl

end

end Cert.Attn

end
-- ==== Proof.Attn.Math.lean ====
/- The arithmetic of one attention row over the extended reals: a softmax with a sink taken in base 2 and divided after the
   weighted sum equals the one taken in base e and divided before it, whenever the logits are real numbers. -/
module

public import Idealize.ShloMosaic.PureOps.Ideal
public import Idealize.ShloMosaic.PureOps.Ideal.Laws

@[expose] public section

noncomputable section

namespace Cert.Attn

open Idealize.ShloMosaic

variable {n : ℕ}

/-- The largest logit of a row, the sink's among them. -/
def top (f : Fin n → EReal) (sk : EReal) : EReal := max (Finset.univ.fold max ⊥ f) sk

/-- The row in base 2: weights, their total with the sink's, and the weighted sum times the total's inverse. -/
def w2 (f : Fin n → EReal) (sk : EReal) (c : Fin n) : EReal := Ideal.exp2 (f c - top f sk)
def d2 (f : Fin n → EReal) (sk : EReal) : EReal := (∑ c, w2 f sk c) + Ideal.exp2 (sk - top f sk)
def att2 (f : Fin n → EReal) (sk : EReal) (v : Fin n → EReal) : EReal :=
  (∑ c, w2 f sk c * v c) * Ideal.div 1 (d2 f sk)

/-- The row in base e: each weight divided by the total, then summed. -/
def wE (f : Fin n → EReal) (sk : EReal) (c : Fin n) : EReal := Ideal.exp (f c - top f sk)
def dE (f : Fin n → EReal) (sk : EReal) : EReal := (∑ c, wE f sk c) + Ideal.exp (sk - top f sk)
def attE (f : Fin n → EReal) (sk : EReal) (v : Fin n → EReal) : EReal :=
  ∑ c, Ideal.div (wE f sk c) (dE f sk) * v c

/-- A logit that is a real number where it is visible. -/
def lg (vis : Fin n → Prop) [DecidablePred vis] (x : Fin n → ℝ) (c : Fin n) : EReal := if vis c then (x c : EReal) else ⊥

variable (vis : Fin n → Prop) [DecidablePred vis] (x : Fin n → ℝ) (y : ℝ)

theorem fold_ne_top : Finset.univ.fold max ⊥ (lg vis x) ≠ ⊤ := by
  classical
  have : ∀ s : Finset (Fin n), s.fold max ⊥ (lg vis x) ≠ ⊤ := by
    intro s
    induction s using Finset.induction_on with
    | empty => simp
    | insert a s ha ih =>
      rw [Finset.fold_insert ha]
      intro h
      rcases max_choice (lg vis x a) (s.fold max ⊥ (lg vis x)) with h' | h'
      · rw [h'] at h; unfold lg at h; split at h
        · exact EReal.coe_ne_top _ h
        · exact bot_ne_top h
      · rw [h'] at h; exact ih h
  exact this _

theorem top_real : ∃ M : ℝ, top (lg vis x) (y : EReal) = (M : EReal) := by
  have h1 : top (lg vis x) (y : EReal) ≠ ⊤ := by
    unfold top; intro h
    rcases max_choice (Finset.univ.fold max ⊥ (lg vis x)) (y : EReal) with h' | h'
    · rw [h'] at h; exact fold_ne_top vis x h
    · rw [h'] at h; exact EReal.coe_ne_top _ h
  have h2 : top (lg vis x) (y : EReal) ≠ ⊥ := by
    intro h
    have : (y : EReal) ≤ top (lg vis x) (y : EReal) := le_max_right _ _
    rw [h, le_bot_iff] at this
    exact EReal.coe_ne_bot _ this
  exact ⟨_, (EReal.coe_toReal h1 h2).symm⟩

/-- The factor between the two bases. -/
def ln2 : ℝ := Real.log 2

theorem ln2_pos : 0 < ln2 := Real.log_pos (by norm_num)

/-- Multiplying by it keeps the order. -/
theorem ln2_mono : Monotone fun a : EReal => (ln2 : EReal) * a := fun a b h =>
  mul_le_mul_of_nonneg_left h (by exact_mod_cast ln2_pos.le)

theorem lg_scale (c : Fin n) : (ln2 : EReal) * lg vis x c = lg vis (fun c => ln2 * x c) c := by
  unfold lg; split
  · rw [EReal.coe_mul]
  · exact EReal.coe_mul_bot_of_pos ln2_pos

theorem top_scale : (ln2 : EReal) * top (lg vis x) (y : EReal) = top (lg vis fun c => ln2 * x c) ((ln2 * y : ℝ) : EReal) := by
  unfold top
  rw [ln2_mono.map_max, EReal.coe_mul,
    ← Finset.fold_hom (op' := max) (m := fun a : EReal => (ln2 : EReal) * a) (fun a b => ln2_mono.map_max)]
  simp only [lg_scale, EReal.coe_mul_bot_of_pos ln2_pos]

theorem exp_scale (a : ℝ) : Ideal.exp ((ln2 * a : ℝ) : EReal) = Ideal.exp2 (a : EReal) := by
  rw [Ideal.exp_coe, Ideal.exp2_coe]
  show ((Real.exp (ln2 * a) : ℝ) : EReal) = (((2 : ℝ) ^ a : ℝ) : EReal)
  rw [Real.rpow_def_of_pos (by norm_num)]; rfl

/-- Each weight is one nonnegative real number in both bases. -/
theorem weight (c : Fin n) : ∃ p : ℝ, 0 ≤ p ∧ w2 (lg vis x) y c = p
    ∧ wE (lg vis fun c => ln2 * x c) ((ln2 * y : ℝ) : EReal) c = p := by
  obtain ⟨M, hM⟩ := top_real vis x y
  have hM' : top (lg vis fun c => ln2 * x c) ((ln2 * y : ℝ) : EReal) = ((ln2 * M : ℝ) : EReal) := by
    rw [← top_scale, hM, EReal.coe_mul]
  unfold w2 wE
  rw [hM, hM']
  unfold lg
  split
  · refine ⟨(2 : ℝ) ^ (x c - M), (Real.rpow_pos_of_pos (by norm_num) _).le, ?_, ?_⟩
    · rw [← EReal.coe_sub, Ideal.exp2_coe]; rfl
    · rw [← EReal.coe_sub, ← mul_sub, exp_scale, Ideal.exp2_coe]; rfl
  · refine ⟨0, le_rfl, ?_, ?_⟩
    · rw [EReal.bot_sub, Ideal.exp2_bot, EReal.coe_zero]
    · rw [EReal.bot_sub, Ideal.exp_bot, EReal.coe_zero]

/-- The sink's weight is one positive real number in both bases. -/
theorem weight_sink : ∃ p : ℝ, 0 < p ∧ Ideal.exp2 (y - top (lg vis x) y) = p
    ∧ Ideal.exp (((ln2 * y : ℝ) : EReal) - top (lg vis fun c => ln2 * x c) ((ln2 * y : ℝ) : EReal)) = p := by
  obtain ⟨M, hM⟩ := top_real vis x y
  have hM' : top (lg vis fun c => ln2 * x c) ((ln2 * y : ℝ) : EReal) = ((ln2 * M : ℝ) : EReal) := by
    rw [← top_scale, hM, EReal.coe_mul]
  rw [hM, hM']
  refine ⟨(2 : ℝ) ^ (y - M), Real.rpow_pos_of_pos (by norm_num) _, ?_, ?_⟩
  · rw [← EReal.coe_sub, Ideal.exp2_coe]; rfl
  · rw [← EReal.coe_sub, ← mul_sub, exp_scale, Ideal.exp2_coe]; rfl

theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top _)]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE ROW: base 2 with the division last is base e with the division first. -/
theorem att_eq (v : Fin n → EReal) :
    att2 (lg vis x) y v = attE (lg vis fun c => ln2 * x c) ((ln2 * y : ℝ) : EReal) v := by
  choose p hp h2 hE using weight vis x y
  obtain ⟨q, hq, hq2, hqE⟩ := weight_sink vis x y
  unfold att2 attE d2 dE
  simp only [h2, hE, hq2, hqE, ← coe_sum, ← EReal.coe_add]
  have hD : 0 < (∑ c, p c) + q := add_pos_of_nonneg_of_pos (Finset.sum_nonneg fun c _ => hp c) hq
  have hne : (((∑ c, p c) + q : ℝ) : EReal) ≠ 0 := by exact_mod_cast hD.ne'
  unfold Ideal.div
  simp only [if_neg hne, ← EReal.coe_inv, one_mul]
  rw [sum_mul_coe _ _ _ (inv_nonneg.mpr hD.le)]
  refine Finset.sum_congr rfl fun c _ => ?_
  rw [mul_assoc, mul_comm (v c), ← mul_assoc]

end Cert.Attn

end
-- ==== Proof.Attn.HeadAt.lean ====
/- The attention kernel's block read at an element, at exact values: one attention row per head, then the normalisation
   over the 512 lanes. -/
module

public import proofs.«01_k».proof.Proof.Attn.Block
public import proofs.«01_k».proof.Proof.Attn.Math
public import Idealize.ShloMosaic.Lib.Pointwise
public import Idealize.ShloMosaic.Lib.Tactic.WordOmega

@[expose] public section

set_option maxRecDepth 16384

noncomputable section

namespace Cert.Attn

open Cert.KernelIdeal Cert.KernelIdeal.Gen Idealize.ShloMosaic Idealize.ShloMosaic.TcCoe Idealize.SL.Sem

/-- Key `c` of the 384 around block `B` is seen by query `r` of the block: within 128 positions, inside the sequence. -/
def vis (B r c : ℕ) : Prop := (c < 128 → 0 < B ∧ r ≤ c) ∧ (256 ≤ c → B < 127 ∧ c ≤ 256 + r)

instance (B r c : ℕ) : Decidable (vis B r c) := by unfold vis; infer_instance

theorem neg_inf : Ideal.ofBits .f32 0xFF800000#32 = (⊥ : EReal) := by
  simp [Ideal.ofBits, Ideal.ieee, -EReal.coe_mul]

/-- Output lane `C` of a query: head `C / 64` in the kernel's order, from the query's 512 lanes, the keys and values of
    the 384 positions around its block (two groups of 64 lanes) and the eight sinks (group by group). -/
def row (B r : ℕ) (Q : Fin 512 → EReal) (K V : Fin 384 → Fin 128 → EReal) (sk : Fin 8 → EReal) (C : Fin 512) : EReal :=
  att2 (fun c : Fin 384 => if vis B r c then
      ∑ d : Fin 64, Q ⟨64 * (C.val / 64) + d.val, by omega⟩ * K c ⟨64 * (C.val % 128 / 64) + d.val, by omega⟩ else ⊥)
    (sk ⟨4 * (C.val % 128 / 64) + C.val / 128, by omega⟩ * ((Real.log 2)⁻¹ : ℝ))
    (fun c => V c ⟨C.val % 128, by omega⟩)

/-- The normalisation of a row of 512 lanes. -/
def rms (y gain : Fin 512 → EReal) (C : Fin 512) : EReal :=
  y C * Ideal.rsqrt ((∑ x, y x * y x) * Ideal.ofBits .f32 0x3B000000#32 + Ideal.ofBits .f32 0x358637BD#32) * gain C

theorem low_lane : ∀ l : Fin 128, IntOp.cmpi .slt (BitVec.ofNat 32 l.val) 64#32 = BitVec.ofBool (decide (l.val < 64)) := by
  decide +kernel

theorem high_lane : ∀ l : Fin 128, IntOp.xori (IntOp.cmpi .slt (BitVec.ofNat 32 l.val) 64#32) 1#1 = BitVec.ofBool (decide (¬ l.val < 64)) := by
  decide +kernel

theorem sel_ofBool {α : Type} (p : Prop) [Decidable p] (a b : α) : Scalar.select (BitVec.ofBool (decide p)) a b = if p then a else b := by
  by_cases h : p <;> simp [h, Scalar.select]

theorem qtile_low (q : Vec Ideal S1x128x128 .bf16) (r l : Fin 128) :
    qtile (F := Ideal) k0_pay5 q (ix2 r l) = if l.val < 64 then q (ix3 0 r l) else 0 := by
  pointwise [qtile, k0_pay5]
  rw [low_lane, sel_ofBool]

theorem qtile_high (q : Vec Ideal S1x128x128 .bf16) (r l : Fin 128) :
    qtile (F := Ideal) high q (ix2 r l) = if ¬ l.val < 64 then q (ix3 0 r l) else 0 := by
  pointwise [qtile, high, k0_pay5]
  rw [high_lane, sel_ofBool]

theorem scores_apply (sel : IVec S128x128 1) (kw : FVec Ideal S384x128 .bf16) (q : (h : ℕ) → h < 4 → Vec Ideal S1x128x128 .bf16)
    (h : ℕ) (hh : h < 4) (r : Fin 128) (c : Fin 384) :
    scores (F := Ideal) sel kw q (ix2 ⟨128 * h + r.val, by omega⟩ c)
      = ∑ l : Fin 128, qtile (F := Ideal) sel (q h hh) (ix2 r l) * kw (ix2 c l) := by
  interval_cases h <;> pointwise [scores] <;> refine Finset.sum_congr rfl fun x _ => ?_
  · rw [dif_neg (by omega), dif_neg (by omega), dif_pos (by omega)]
    have e : (⟨256 + r.val - 128 - 128, by omega⟩ : Fin 128) = r := Fin.ext (by simp; omega)
    rw [e]
  · rw [dif_neg (by omega), dif_neg (by omega), dif_neg (by omega)]
    have e : (⟨384 + r.val - 128 - 128 - 128, by omega⟩ : Fin 128) = r := Fin.ext (by simp; omega)
    rw [e]

theorem sum_low (f g : Fin 128 → EReal) :
    ∑ l : Fin 128, (if l.val < 64 then f l else 0) * g l = ∑ d : Fin 64, f ⟨d.val, by omega⟩ * g ⟨d.val, by omega⟩ := by
  rw [Fin.sum_univ_add (a := 64) (b := 64)]
  rw [Finset.sum_eq_zero (s := Finset.univ) (f := fun i : Fin 64 => (if (Fin.natAdd 64 i : Fin 128).val < 64 then f (Fin.natAdd 64 i) else 0) * g (Fin.natAdd 64 i)), add_zero]
  · refine Finset.sum_congr rfl fun d _ => ?_
    rw [if_pos (by simp)]; rfl
  · intro d _; rw [if_neg (by simp), zero_mul]

theorem sum_high (f g : Fin 128 → EReal) :
    ∑ l : Fin 128, (if ¬ l.val < 64 then f l else 0) * g l = ∑ d : Fin 64, f ⟨64 + d.val, by omega⟩ * g ⟨64 + d.val, by omega⟩ := by
  rw [Fin.sum_univ_add (a := 64) (b := 64)]
  rw [Finset.sum_eq_zero (s := Finset.univ) (f := fun i : Fin 64 => (if ¬ (Fin.castAdd 64 i : Fin 128).val < 64 then f (Fin.castAdd 64 i) else 0) * g (Fin.castAdd 64 i)), zero_add]
  · refine Finset.sum_congr rfl fun d _ => ?_
    rw [if_pos (by simp)]; rfl
  · intro d _; rw [if_neg (by simp), zero_mul]

theorem mprev_word (B : ℕ) (hB : B < 128) (r c : Fin 128) :
    IntOp.cmpi .sge (IntOp.subi (BitVec.ofNat 32 c.val) (BitVec.ofNat 32 r.val))
      (Scalar.select (Scalar.cmpi .sgt (BitVec.ofNat 32 B) 0#32) 0#32 128#32) = BitVec.ofBool (decide (0 < B ∧ r.val ≤ c.val)) := by
  have h0 : ∀ B : Fin 128, Scalar.select (Scalar.cmpi .sgt (BitVec.ofNat 32 B.val) 0#32) 0#32 128#32 = if 0 < B.val then 0#32 else 128#32 := by
    decide +kernel
  rw [h0 ⟨B, hB⟩]
  have h1 : ∀ r c : Fin 128, IntOp.cmpi .sge (IntOp.subi (BitVec.ofNat 32 c.val) (BitVec.ofNat 32 r.val)) 0#32 = BitVec.ofBool (decide (r.val ≤ c.val)) := by
    decide +kernel
  have h2 : ∀ r c : Fin 128, IntOp.cmpi .sge (IntOp.subi (BitVec.ofNat 32 c.val) (BitVec.ofNat 32 r.val)) 128#32 = 0#1 := by
    decide +kernel
  by_cases hb : 0 < B
  · simp only [hb, if_true, h1, true_and]
  · simp only [hb, if_false, h2, false_and]; rfl

theorem mnext_word (B : ℕ) (hB : B < 128) (r c : Fin 128) :
    IntOp.cmpi .sle (IntOp.subi (BitVec.ofNat 32 c.val) (BitVec.ofNat 32 r.val))
      (Scalar.select (Scalar.cmpi .slt (BitVec.ofNat 32 B) 127#32) 0#32 4294967168#32) = BitVec.ofBool (decide (B < 127 ∧ c.val ≤ r.val)) := by
  have h0 : ∀ B : Fin 128, Scalar.select (Scalar.cmpi .slt (BitVec.ofNat 32 B.val) 127#32) 0#32 4294967168#32 = if B.val < 127 then 0#32 else 4294967168#32 := by
    decide +kernel
  rw [h0 ⟨B, hB⟩]
  have h1 : ∀ r c : Fin 128, IntOp.cmpi .sle (IntOp.subi (BitVec.ofNat 32 c.val) (BitVec.ofNat 32 r.val)) 0#32 = BitVec.ofBool (decide (c.val ≤ r.val)) := by
    decide +kernel
  have h2 : ∀ r c : Fin 128, IntOp.cmpi .sle (IntOp.subi (BitVec.ofNat 32 c.val) (BitVec.ofNat 32 r.val)) 4294967168#32 = 0#1 := by
    decide +kernel
  by_cases hb : B < 127
  · simp only [hb, if_true, h1, true_and]
  · simp only [hb, if_false, h2, false_and]; rfl

theorem masked_apply (B : ℕ) (hB : B < 128) (s : FVec Ideal S512x384 .f32) (h : ℕ) (hh : h < 4) (r : Fin 128) (c : Fin 384) :
    masked (F := Ideal) (BitVec.ofNat 32 B) s h hh (ix2 r c) = if vis B r c then s (ix2 ⟨128 * h + r.val, by omega⟩ c) else ⊥ := by
  pointwise [masked, mprev, mnext, k0_pay4]
  by_cases h1 : c.val < 128
  · refine (dif_pos h1).trans ((congrArg (fun w => Scalar.select w _ _) (mprev_word B hB r ⟨c.val, h1⟩)).trans
      ((sel_ofBool _ _ _).trans ?_))
    by_cases h2 : 0 < B ∧ r.val ≤ c.val
    · exact (if_pos h2).trans (if_pos ⟨fun _ => h2, fun h => by omega⟩).symm
    · exact (if_neg h2).trans (neg_inf.trans (if_neg fun h => h2 (h.1 h1)).symm)
  · refine (dif_neg h1).trans ?_
    by_cases h2 : c.val - 128 < 128
    · refine (dif_pos h2).trans (Eq.trans ?_ (if_pos ⟨fun h => by omega, fun h => by omega⟩).symm)
      exact congrArg (fun c' => s (ix2 _ c')) (Fin.ext (by simp; omega))
    · refine (dif_neg h2).trans ((congrArg (fun w => Scalar.select w _ _) (mnext_word B hB r ⟨c.val - 128 - 128, by omega⟩)).trans
        ((sel_ofBool _ _ _).trans ?_))
      by_cases h3 : B < 127 ∧ c.val - 128 - 128 ≤ r.val
      · refine (if_pos h3).trans (Eq.trans ?_ (if_pos ⟨fun h => by omega, fun h => by omega⟩).symm)
        exact congrArg (fun c' => s (ix2 _ c')) (Fin.ext (by simp; omega))
      · refine (if_neg h3).trans (neg_inf.trans (if_neg fun h => h3 ?_).symm)
        have := h.2 (by omega)
        omega

theorem vmax_apply (x : FVec Ideal S128x384 .f32) (sk : Ideal .f32) (r : Fin 128) :
    vmax (F := Ideal) x sk (ix2 r 0) = top (fun c : Fin 384 => x (ix2 r c)) sk := by
  pointwise [vmax]
  rw [neg_inf]; rfl

theorem vprob_apply (x : FVec Ideal S128x384 .f32) (sk : Ideal .f32) (r : Fin 128) (c : Fin 384) :
    vprob (F := Ideal) x sk (ix2 r c) = w2 (fun c : Fin 384 => x (ix2 r c)) sk c := by
  pointwise [vprob]
  rw [vmax_apply]; rfl

theorem vinv_apply (x : FVec Ideal S128x384 .f32) (sk : Ideal .f32) (r : Fin 128) :
    vinv (F := Ideal) x sk (ix2 r 0) = Ideal.div 1 (d2 (fun c : Fin 384 => x (ix2 r c)) sk) := by
  pointwise [vinv]
  simp only [vprob_apply, vmax_apply]; rfl

theorem vpv_apply (x : (h : ℕ) → h < 4 → FVec Ideal S128x384 .f32) (sk : (h : ℕ) → h < 4 → Ideal .f32) (vw : FVec Ideal S384x128 .bf16)
    (h : ℕ) (hh : h < 4) (r l : Fin 128) :
    vpv (F := Ideal) x sk vw (ix2 ⟨128 * h + r.val, by omega⟩ l)
      = ∑ c : Fin 384, vprob (F := Ideal) (x h hh) (sk h hh) (ix2 r c) * vw (ix2 c l) := by
  interval_cases h <;> pointwise [vpv] <;> refine Finset.sum_congr rfl fun x _ => ?_
  · rw [dif_neg (by omega), dif_neg (by omega), dif_pos (by omega)]
    have e : (⟨256 + r.val - 128 - 128, by omega⟩ : Fin 128) = r := Fin.ext (by simp; omega)
    rw [e]
  · rw [dif_neg (by omega), dif_neg (by omega), dif_neg (by omega)]
    have e : (⟨384 + r.val - 128 - 128 - 128, by omega⟩ : Fin 128) = r := Fin.ext (by simp; omega)
    rw [e]

theorem vhead_apply (x : (h : ℕ) → h < 4 → FVec Ideal S128x384 .f32) (sk : (h : ℕ) → h < 4 → Ideal .f32) (vw : FVec Ideal S384x128 .bf16)
    (h : ℕ) (hh : h < 4) (r l : Fin 128) :
    vhead (F := Ideal) x sk vw h hh (ix2 r l)
      = att2 (fun c : Fin 384 => x h hh (ix2 r c)) (sk h hh) (fun c => vw (ix2 c l)) := by
  pointwise [vhead]
  rw [vpv_apply, vinv_apply]
  simp only [vprob_apply]; rfl

theorem vcat_apply (a b : (h : ℕ) → h < 4 → FVec Ideal S128x128 .f32) (r : Fin 128) (C : Fin 512) :
    vcat (F := Ideal) a b (ix2 r C) = if C.val % 128 < 64 then a (C.val / 128) (by omega) (ix2 r ⟨C.val % 128, by omega⟩)
      else b (C.val / 128) (by omega) (ix2 r ⟨C.val % 128, by omega⟩) := by
  obtain ⟨h, l, hh, rfl⟩ : ∃ (h : ℕ) (l : Fin 128) (hh : h < 4), C = ⟨128 * h + l.val, by omega⟩ :=
    ⟨C.val / 128, ⟨C.val % 128, by omega⟩, by omega, Fin.ext (by simp; omega)⟩
  have e1 : (128 * h + l.val) / 128 = h := by omega
  have e2 : (128 * h + l.val) % 128 = l.val := by omega
  simp only [e1, e2]
  interval_cases h <;> pointwise [vcat, k0_pay5]
  · rw [low_lane, sel_ofBool]
  · rw [low_lane, sel_ofBool]
  · rw [dif_neg (by omega), dif_neg (by omega), dif_pos (by omega)]
    have e : 256 + l.val - 128 - 128 = l.val := by omega
    simp only [e]
    rw [low_lane, sel_ofBool]
  · rw [dif_neg (by omega), dif_neg (by omega), dif_neg (by omega)]
    have e : 384 + l.val - 128 - 128 - 128 = l.val := by omega
    simp only [e]
    rw [low_lane, sel_ofBool]

theorem vnorm_apply (gain : Vec Ideal S1x512 .f32) (y : FVec Ideal S128x512 .f32) (r : Fin 128) (C : Fin 512) :
    vnorm (F := Ideal) gain y (ix3 0 r C) = rms (fun x => y (ix2 r x)) (fun x => gain (ix2 0 x)) C := by
  pointwise [vnorm]
  rfl

theorem block_word (i j : ℕ) : Scalar.addi (Scalar.muli (BitVec.ofNat 32 i) 8#32) (BitVec.ofNat 32 j) = BitVec.ofNat 32 (8 * i + j) := by
  show BitVec.ofNat 32 i * BitVec.ofNat 32 8 + BitVec.ofNat 32 j = _
  rw [← BitVec.ofNat_mul, ← BitVec.ofNat_add, mul_comm]

theorem sink2_eq (a : Ideal .f32) : sink2 (F := Ideal) a = a * (((Real.log 2)⁻¹ : ℝ) : EReal) := by
  unfold sink2
  rw [IdealRules.named_const.ideal_named_scalar _ _ _ _ rfl]; rfl

end Cert.Attn

end
-- ==== Proof.Attn.RefMask.lean ====
module

public import proofs.«01_k».proof.Proof.Attn.HeadAt
public import proofs.«01_k».proof.Proof.Gen.ReferenceIdeal.Read
public import Idealize.ShloMosaic.Lib.Pointwise

/-! The mask of the reference, read at a query and a key of its window. -/

@[expose] public section

set_option maxRecDepth 16384

noncomputable section

namespace Cert.Attn.Ref

open Cert.ReferenceIdeal Cert.ReferenceIdeal.Gen Cert.ReferenceIdeal.Read Idealize.ShloMosaic Idealize.ShloMosaic.TcCoe Idealize.SL.Sem

/-- The block of a sequence: the remainder of the block's number. -/
theorem block_word : ∀ n : Fin 256, val_main_v29 (F := Ideal) (ix1 n) = BitVec.ofNat 32 (n.val % 128) := by
  intro n
  pointwise [val_main_v29, val_main_v28, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_call2_v12, val_main_call2_v13, val_main_call2_v14, val_main_call2_c, val_main_call2_c_0, val_main_call2_c_1, val_main_call2_c_2, val_main_call2_c_3, val_main_c_3]
  revert n
  decide +kernel

/-- The position of key `c` of the window of block `B`, as a word. -/
theorem key_word (B c : ℕ) (hB : B < 128) (hc : c < 384) :
    IntOp.addi (IntOp.muli (IntOp.subi (BitVec.ofNat 32 B) 1#32) 128#32) (BitVec.ofNat 32 c) = BitVec.ofNat 32 (B * 128 + c) - 128#32 := by
  apply BitVec.eq_of_toNat_eq
  simp only [IntOp.subi, IntOp.addi, IntOp.muli, BitVec.toNat_add, BitVec.toNat_sub, BitVec.toNat_mul, BitVec.toNat_ofNat, Nat.reducePow, Nat.reduceMod]
  omega

/-- The distance of a query and a key does not depend on the block. -/
theorem dist_word (B r c : ℕ) (hB : B < 128) (hr : r < 128) (hc : c < 384) :
    IntOp.subi (IntOp.addi (IntOp.muli (BitVec.ofNat 32 B) 128#32) (BitVec.ofNat 32 r)) (BitVec.ofNat 32 (B * 128 + c) - 128#32)
      = BitVec.ofNat 32 (512 + r - c) - 384#32 := by
  apply BitVec.eq_of_toNat_eq
  simp only [IntOp.subi, IntOp.addi, IntOp.muli, BitVec.toNat_add, BitVec.toNat_sub, BitVec.toNat_mul, BitVec.toNat_ofNat, Nat.reducePow, Nat.reduceMod]
  omega

theorem near_word : ∀ u : Fin 640,
    IntOp.cmpi .sle (IntOp.absi (BitVec.ofNat 32 u.val - 384#32)) 128#32 = BitVec.ofBool (decide (256 ≤ u.val ∧ u.val ≤ 512)) := by
  decide +kernel

/-- A small number less 128, as a signed word. -/
theorem small_word (n : ℕ) (hn : n < 17000) : (BitVec.ofNat 32 n - 128#32).toInt = (n : ℤ) - 128 := by
  rw [BitVec.toInt_eq_toNat_cond]
  simp only [BitVec.toNat_sub, BitVec.toNat_ofNat, Nat.reducePow, Nat.reduceMod]
  split_ifs <;> omega

theorem low_word (n : ℕ) (hn : n < 17000) :
    IntOp.cmpi .sge (BitVec.ofNat 32 n - 128#32) 0#32 = BitVec.ofBool (decide (128 ≤ n)) := by
  have h := small_word n hn
  simp only [IntOp.cmpi, BitVec.sle, h]
  exact congrArg BitVec.ofBool (decide_eq_decide.2 (by simp))

theorem high_word (n : ℕ) (hn : n < 17000) :
    IntOp.cmpi .slt (BitVec.ofNat 32 n - 128#32) 16384#32 = BitVec.ofBool (decide (n < 16512)) := by
  have h := small_word n hn
  simp only [IntOp.cmpi, BitVec.slt, h]
  exact congrArg BitVec.ofBool (decide_eq_decide.2 (by simp; omega))

theorem and_word (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- A key is attended to when it is near and inside the sequence. -/
theorem vis_iff (B r c : ℕ) (hB : B < 128) (hr : r < 128) (hc : c < 384) :
    ((r ≤ c ∧ c ≤ 256 + r) ∧ 128 ≤ B * 128 + c) ∧ B * 128 + c < 16512 ↔ vis B r c := by
  unfold vis
  omega

theorem mask_apply (n : Fin 256) (g : Fin 2) (h : Fin 4) (r : Fin 128) (c : Fin 384) :
    val_main_v62 (F := Ideal) (ix5 n g h r c) = BitVec.ofBool (decide (vis (n.val % 128) r.val c.val)) := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c_3, val_main_c_4, val_main_c_5, val_main_c_6, val_main_c_7, val_main_c_8, val_main_c_9]
  have hB : n.val % 128 < 128 := Nat.mod_lt _ (by norm_num)
  have hr := r.isLt
  have hc := c.isLt
  have hn := near_word ⟨512 + r.val - c.val, by omega⟩
  dsimp only at hn
  rw [block_word n, key_word _ _ hB hc, dist_word _ _ _ hB hr hc, hn, low_word _ (by omega), high_word _ (by omega), and_word, and_word]
  refine congrArg BitVec.ofBool (decide_eq_decide.2 (Iff.trans ?_ (vis_iff _ _ _ hB hr hc)))
  omega

end Cert.Attn.Ref
end
-- ==== Proof.Attn.RefRow.lean ====
module

public import proofs.«01_k».proof.Proof.Attn.RefMask
public import proofs.«01_k».proof.Proof.Gen.ReferenceIdeal.Read
public import Idealize.ShloMosaic.Lib.Pointwise

/-! The windows of keys and values, the queries and the weights of the reference, read at an index. -/

@[expose] public section

set_option maxRecDepth 16384

noncomputable section

namespace Cert.Attn.Ref

open Cert.ReferenceIdeal Cert.ReferenceIdeal.Gen Cert.ReferenceIdeal.Read Idealize.ShloMosaic Idealize.ShloMosaic.TcCoe Idealize.SL.Sem

variable (y : (⟨S2x16384x128, .bf16⟩ : BufTy).Contents (Elt Ideal))

/-- The window of keys or values at a position inside the sequence. -/
theorem win16_apply (n : Fin 256) (c : Fin 384) (g : Fin 2) (d : Fin 64) (h1 : 128 ≤ n.val % 128 * 128 + c.val) (h2 : n.val % 128 * 128 + c.val < 16512) :
    val_main_v16 (F := Ideal) y (ix4 n c g d) = y (ix3 ⟨n.val / 128, by omega⟩ ⟨n.val % 128 * 128 + c.val - 128, by omega⟩ ⟨g.val * 64 + d.val, by omega⟩) := by
  have hn := n.isLt
  have hc := c.isLt
  pointwise [val_main_v16, val_main_v15, val_main_v14, val_main_v13, val_main_v12, val_main_v11, val_main_v10, val_main_v7, val_main_v6]
  by_cases h3 : c.val < 128
  · refine (dif_pos h3).trans ((dif_pos ⟨by omega, by omega, by omega⟩).trans ?_)
    exact congrArg (fun p => y (ix3 _ p _)) (Fin.ext rfl)
  · refine (dif_neg h3).trans ?_
    by_cases h4 : c.val - 128 < 128
    · refine (dif_pos h4).trans ((dif_pos ⟨by omega, by omega, by omega⟩).trans ?_)
      exact congrArg (fun p => y (ix3 _ p _)) (Fin.ext (by simp; omega))
    · refine (dif_neg h4).trans ((dif_pos ⟨by omega, by omega, by omega⟩).trans ?_)
      exact congrArg (fun p => y (ix3 _ p _)) (Fin.ext (by simp; omega))

/-- The window of keys or values at a position inside the sequence. -/
theorem win23_apply (n : Fin 256) (c : Fin 384) (g : Fin 2) (d : Fin 64) (h1 : 128 ≤ n.val % 128 * 128 + c.val) (h2 : n.val % 128 * 128 + c.val < 16512) :
    val_main_v23 (F := Ideal) y (ix4 n c g d) = y (ix3 ⟨n.val / 128, by omega⟩ ⟨n.val % 128 * 128 + c.val - 128, by omega⟩ ⟨g.val * 64 + d.val, by omega⟩) := by
  have hn := n.isLt
  have hc := c.isLt
  pointwise [val_main_v23, val_main_v22, val_main_v21, val_main_v20, val_main_v19, val_main_v18, val_main_v17, val_main_v9, val_main_v8]
  by_cases h3 : c.val < 128
  · refine (dif_pos h3).trans ((dif_pos ⟨by omega, by omega, by omega⟩).trans ?_)
    exact congrArg (fun p => y (ix3 _ p _)) (Fin.ext rfl)
  · refine (dif_neg h3).trans ?_
    by_cases h4 : c.val - 128 < 128
    · refine (dif_pos h4).trans ((dif_pos ⟨by omega, by omega, by omega⟩).trans ?_)
      exact congrArg (fun p => y (ix3 _ p _)) (Fin.ext (by simp; omega))
    · refine (dif_neg h4).trans ((dif_pos ⟨by omega, by omega, by omega⟩).trans ?_)
      exact congrArg (fun p => y (ix3 _ p _)) (Fin.ext (by simp; omega))

variable (x0 : (⟨S8, .f32⟩ : BufTy).Contents (Elt Ideal)) (x1 : (⟨S2x16384x512, .bf16⟩ : BufTy).Contents (Elt Ideal)) (x2 x3 : (⟨S2x16384x128, .bf16⟩ : BufTy).Contents (Elt Ideal))

theorem query_apply (n : Fin 256) (r : Fin 128) (h : Fin 4) (g : Fin 2) (d : Fin 64) :
    val_main_v5 (F := Ideal) x1 (ix5 n r h g d)
      = x1 (ix3 ⟨n.val / 128, by omega⟩ ⟨n.val % 128 * 128 + r.val, by omega⟩ ⟨h.val * 128 + g.val * 64 + d.val, by omega⟩)
        * (Ideal.ofBits .f32 0x41000000#32 * Ideal.log (Ideal.ofBits .f32 0x40000000#32)) := by
  pointwise [val_main_v5, val_main_v4, val_main_v3, val_main_v2, val_main_v1, val_main_v0, val_main_cst, val_main_cst_0]

theorem logit_apply (n : Fin 256) (g : Fin 2) (h : Fin 4) (r : Fin 128) (c : Fin 384) :
    val_main_v64 (F := Ideal) x1 x2 (ix5 n g h r c)
      = if vis (n.val % 128) r.val c.val then
          (∑ d : Fin 64, val_main_v16 (F := Ideal) x2 (ix4 n c g d) * val_main_v5 (F := Ideal) x1 (ix5 n r h g d)) * Ideal.ofBits .f32 0x3E000000#32
        else ⊥ := by
  pointwise [val_main_v64, val_main_v63, val_main_cst_10, val_main_v27, val_main_v26, val_main_v25, val_main_v24, val_main_cst_2]
  rw [mask_apply, sel_ofBool, neg_inf]

theorem max_apply (n : Fin 256) (g : Fin 2) (h : Fin 4) (r : Fin 128) :
    val_main_v66 (F := Ideal) x1 x2 (ix4 n g h r)
      = Finset.fold max (val_main_cst_11 (F := Ideal) (Shape.Idx.first h_S_)) (fun x => val_main_v64 (F := Ideal) x1 x2 (ix5 n g h r x)) Finset.univ := by
  pointwise [val_main_v66]

theorem idx_max (n : Fin 256) (g : Fin 2) (h : Fin 4) (r : Fin 128) : idx_main_v67 (ix5 n g h r 0) = ix4 n g h r := by
  funext a
  match a with
  | ⟨0, _⟩ => rfl
  | ⟨1, _⟩ => rfl
  | ⟨2, _⟩ => rfl
  | ⟨3, _⟩ => rfl

theorem idx_sink (n : Fin 256) (g : Fin 2) (h : Fin 4) (r : Fin 128) :
    idx_main_v65 (idx_main_v68 (ix5 n g h r 0)) = ix1 ⟨g.val * 4 + h.val, by omega⟩ := by
  have hg := g.isLt
  have hh := h.isLt
  funext a
  match a with
  | ⟨0, _⟩ => exact Fin.ext (by simp [idx_main_v65, idx_main_v68])

theorem top_apply (n : Fin 256) (g : Fin 2) (h : Fin 4) (r : Fin 128) :
    val_main_v69 (F := Ideal) x0 x1 x2 (ix5 n g h r 0) = top (fun c => val_main_v64 (F := Ideal) x1 x2 (ix5 n g h r c)) (x0 (ix1 ⟨g.val * 4 + h.val, by omega⟩)) := by
  have hc : val_main_cst_11 (F := Ideal) (Shape.Idx.first h_S_) = (⊥ : EReal) := neg_inf
  have hm := max_apply x1 x2 n g h r
  rw [hc] at hm
  unfold top
  rw [← hm]
  rw [val_main_v69_apply, val_main_v67_apply, val_main_v68_apply, val_main_v65_apply, idx_max, idx_sink]
  rfl

theorem exp_apply (n : Fin 256) (g : Fin 2) (h : Fin 4) (r : Fin 128) (c : Fin 384) :
    val_main_v72 (F := Ideal) x0 x1 x2 (ix5 n g h r c) = wE (fun c => val_main_v64 (F := Ideal) x1 x2 (ix5 n g h r c)) (x0 (ix1 ⟨g.val * 4 + h.val, by omega⟩)) c := by
  unfold wE
  rw [← top_apply]
  pointwise [val_main_v72, val_main_v71, val_main_v70]

theorem total_apply (n : Fin 256) (g : Fin 2) (h : Fin 4) (r : Fin 128) :
    val_main_v78 (F := Ideal) x0 x1 x2 (ix5 n g h r 0) = dE (fun c => val_main_v64 (F := Ideal) x1 x2 (ix5 n g h r c)) (x0 (ix1 ⟨g.val * 4 + h.val, by omega⟩)) := by
  unfold dE
  simp only [← exp_apply]
  rw [← top_apply]
  pointwise [val_main_v78, val_main_v77, val_main_v76, val_main_v75, val_main_v74, val_main_v73, val_main_v65, val_main_cst_12]

theorem weight_apply (n : Fin 256) (g : Fin 2) (h : Fin 4) (r : Fin 128) (c : Fin 384) :
    val_main_v80 (F := Ideal) x0 x1 x2 (ix5 n g h r c)
      = Ideal.div (wE (fun c => val_main_v64 (F := Ideal) x1 x2 (ix5 n g h r c)) (x0 (ix1 ⟨g.val * 4 + h.val, by omega⟩)) c) (dE (fun c => val_main_v64 (F := Ideal) x1 x2 (ix5 n g h r c)) (x0 (ix1 ⟨g.val * 4 + h.val, by omega⟩))) := by
  rw [← exp_apply, ← total_apply]
  pointwise [val_main_v80, val_main_v79]

end Cert.Attn.Ref
end
-- ==== Proof.Attn.RefTail.lean ====
module

public import proofs.«01_k».proof.Proof.Attn.Math
public import proofs.«01_k».proof.Proof.Gen.ReferenceIdeal.Read
public import Idealize.ShloMosaic.Lib.Pointwise

/-! The last steps of the reference, read at an index: the regrouping of the heads and the scaling of a row by its mean square. -/

@[expose] public section

set_option maxRecDepth 16384

noncomputable section

namespace Cert.Attn.Ref

open Cert.ReferenceIdeal Cert.ReferenceIdeal.Gen Cert.ReferenceIdeal.Read Idealize.ShloMosaic Idealize.ShloMosaic.TcCoe Idealize.SL.Sem

variable (x0 : (⟨S8, .f32⟩ : BufTy).Contents (Elt Ideal)) (x1 : (⟨S2x16384x512, .bf16⟩ : BufTy).Contents (Elt Ideal)) (x2 x3 : (⟨S2x16384x128, .bf16⟩ : BufTy).Contents (Elt Ideal)) (x4 : (⟨S1x512, .f32⟩ : BufTy).Contents (Elt Ideal))

/-- The row scaled to mean square one, and by the gain. -/
def rmsR (y gain : Fin 512 → EReal) (C : Fin 512) : EReal :=
  y C * Ideal.rsqrt (Ideal.div (Ideal.ofBits .f32 0x00000000#32 + ∑ x, y x * y x) (Ideal.ofBits .f32 0x44000000#32) + Ideal.ofBits .f32 0x358637BD#32) * gain C

theorem idx_heads (b : Fin 2) (p : Fin 16384) (C : Fin 512) :
    idx_main_v82 (idx_main_v83 (ix3 b p C))
      = ix5 ⟨b.val * 128 + p.val / 128, by omega⟩ ⟨C.val / 64 % 2, by omega⟩ ⟨C.val % 64, by omega⟩ ⟨C.val / 128, by omega⟩ ⟨p.val % 128, by omega⟩ := by
  have hb := b.isLt; have hp := p.isLt; have hC := C.isLt
  funext a
  match a with
  | ⟨0, _⟩ => exact Fin.ext (show ((b.val * 16384 + p.val) * 512 + C.val) / 65536 = b.val * 128 + p.val / 128 by omega)
  | ⟨1, _⟩ => exact Fin.ext (show ((b.val * 16384 + p.val) * 512 + C.val) / 64 % 2 = C.val / 64 % 2 by omega)
  | ⟨2, _⟩ => exact Fin.ext (show ((b.val * 16384 + p.val) * 512 + C.val) % 64 = C.val % 64 by omega)
  | ⟨3, _⟩ => exact Fin.ext (show ((b.val * 16384 + p.val) * 512 + C.val) / 128 % 4 = C.val / 128 by omega)
  | ⟨4, _⟩ => exact Fin.ext (show ((b.val * 16384 + p.val) * 512 + C.val) / 512 % 128 = p.val % 128 by omega)

theorem heads_apply (b : Fin 2) (p : Fin 16384) (C : Fin 512) :
    val_main_v83 (F := Ideal) x0 x1 x2 x3 (ix3 b p C)
      = val_main_v81 (F := Ideal) x0 x1 x2 x3 (ix5 ⟨b.val * 128 + p.val / 128, by omega⟩ ⟨C.val / 64 % 2, by omega⟩ ⟨C.val % 64, by omega⟩ ⟨C.val / 128, by omega⟩ ⟨p.val % 128, by omega⟩) :=
  (val_main_v83_apply x0 x1 x2 x3 _).trans ((val_main_v82_apply x0 x1 x2 x3 _).trans (congrArg _ (idx_heads b p C)))

theorem mix_apply (n : Fin 256) (g : Fin 2) (d : Fin 64) (h : Fin 4) (r : Fin 128) :
    val_main_v81 (F := Ideal) x0 x1 x2 x3 (ix5 n g d h r)
      = ∑ c : Fin 384, val_main_v23 (F := Ideal) x3 (ix4 n c g d) * val_main_v80 (F := Ideal) x0 x1 x2 (ix5 n g h r c) := by
  refine (val_main_v81_apply x0 x1 x2 x3 _).trans (Finset.sum_congr rfl fun c _ => congrArg₂ (· * ·) (congrArg _ ?_) (congrArg _ ?_))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
    | ⟨4, _⟩ => rfl

theorem idx_mean (b : Fin 2) (p : Fin 16384) (C x : Fin 512) :
    idx_main_v85 (idx_main_v86 (idx_main_v92 (ix3 b p C))) x = ix3 b p x := by
  funext a
  match a with
  | ⟨0, _⟩ => rfl
  | ⟨1, _⟩ => rfl
  | ⟨2, _⟩ => rfl

theorem idx_gain (b : Fin 2) (p : Fin 16384) (C : Fin 512) :
    idx_main_v94 (idx_main_v95 (idx_main_v96 (ix3 b p C))) = ix2 0 C := by
  funext a
  match a with
  | ⟨0, _⟩ => rfl
  | ⟨1, _⟩ => exact Fin.ext (show C.val % 512 = C.val from Nat.mod_eq_of_lt C.isLt)

theorem gain_apply (b : Fin 2) (p : Fin 16384) (C : Fin 512) :
    val_main_v96 (F := Ideal) x4 (ix3 b p C) = x4 (ix2 0 C) :=
  (val_main_v96_apply x4 _).trans ((val_main_v95_apply x4 _).trans ((val_main_v94_apply x4 _).trans (congrArg x4 (idx_gain b p C))))

theorem square_apply (b : Fin 2) (p : Fin 16384) (C : Fin 512) :
    val_main_v86 (F := Ideal) x0 x1 x2 x3 (idx_main_v92 (ix3 b p C))
      = Ideal.ofBits .f32 0x00000000#32 + ∑ x, val_main_v83 (F := Ideal) x0 x1 x2 x3 (ix3 b p x) * val_main_v83 (F := Ideal) x0 x1 x2 x3 (ix3 b p x) := by
  refine (val_main_v86_apply x0 x1 x2 x3 _).trans ((val_main_v85_apply x0 x1 x2 x3 _).trans ?_)
  refine congrArg₂ (· + ·) rfl (Finset.sum_congr rfl fun x _ => ?_)
  rw [idx_mean]
  exact val_main_v84_apply x0 x1 x2 x3 _

theorem mean_apply (b : Fin 2) (p : Fin 16384) (C : Fin 512) :
    val_main_v91 (F := Ideal) x0 x1 x2 x3 (idx_main_v92 (ix3 b p C))
      = Ideal.rsqrt (Ideal.div (val_main_v86 (F := Ideal) x0 x1 x2 x3 (idx_main_v92 (ix3 b p C))) (Ideal.ofBits .f32 0x44000000#32) + Ideal.ofBits .f32 0x358637BD#32) := by
  rw [val_main_v91_apply, val_main_v90_apply, val_main_v88_apply, val_main_v87_apply, val_main_v89_apply]
  rfl

theorem out_apply (b : Fin 2) (p : Fin 16384) (C : Fin 512) :
    val_main_v98 (F := Ideal) x0 x1 x2 x3 x4 (ix3 b p C)
      = rmsR (fun x => val_main_v83 (F := Ideal) x0 x1 x2 x3 (ix3 b p x)) (fun x => x4 (ix2 0 x)) C := by
  rw [val_main_v98_apply, val_main_v97_apply, val_main_v93_apply, val_main_v92_apply, mean_apply, square_apply, gain_apply]
  rfl

end Cert.Attn.Ref
end
-- ==== Proof.Attn.BlockAt.lean ====
/- One block of the attention kernel, read at an element. -/
module

public import proofs.«01_k».proof.Proof.Attn.HeadAt

@[expose] public section

set_option maxRecDepth 16384

noncomputable section

namespace Cert.Attn

open Cert.KernelIdeal Cert.KernelIdeal.Gen Idealize.ShloMosaic Idealize.ShloMosaic.TcCoe Idealize.SL.Sem

/-- BLOCK `j`, element (`r`, `C`). -/
theorem blk_apply (i : ℕ) (hi : i < 16) (kc vc : FVec Ideal S1280x128 .bf16) (q : (j h : ℕ) → j < 8 → h < 4 → Vec Ideal S1x128x128 .bf16)
    (sk : (k : ℕ) → k < 8 → Ideal .f32) (gain : Vec Ideal S1x512 .f32) (j : ℕ) (hj : j < 8) (r : Fin 128) (C : Fin 512) :
    blk (F := Ideal) (BitVec.ofNat 32 i) kc vc q sk gain j hj (ix3 0 r C)
      = rms (row (8 * i + j) r (fun C => q j (C.val / 128) hj (by omega) (ix3 0 r ⟨C.val % 128, by omega⟩))
          (fun c l => kc (ix2 ⟨128 * j + c.val, by omega⟩ l)) (fun c l => vc (ix2 ⟨128 * j + c.val, by omega⟩ l))
          (fun k => sk k.val k.isLt)) (fun x => gain (ix2 0 x)) C := by
  unfold blk
  rw [vnorm_apply]
  congr 1
  funext C
  rw [vcat_apply]
  unfold group row
  rw [block_word]
  split_ifs with hl
  · rw [vhead_apply]
    simp only [masked_apply _ (show 8 * i + j < 128 by omega), sink2_eq]
    have e : C.val % 128 / 64 = 0 := by omega
    congr 1
    · funext c
      split_ifs
      · rw [scores_apply _ _ _ (C.val / 128) (by omega)]
        simp only [qtile_low]
        rw [sum_low]
        refine Finset.sum_congr rfl fun d _ => ?_
        pointwise
        have e1 : (64 * (C.val / 64) + d.val) / 128 = C.val / 128 := by omega
        have e2 : (64 * (C.val / 64) + d.val) % 128 = d.val := by omega
        simp only [e1, e2, e, mul_zero, zero_add]
      · rfl
    · simp only [e, mul_zero, zero_add]
    · funext c
      pointwise
  · rw [vhead_apply]
    simp only [masked_apply _ (show 8 * i + j < 128 by omega), sink2_eq]
    have e : C.val % 128 / 64 = 1 := by omega
    congr 1
    · funext c
      split_ifs
      · rw [scores_apply _ _ _ (C.val / 128) (by omega)]
        simp only [qtile_high]
        rw [sum_high]
        refine Finset.sum_congr rfl fun d _ => ?_
        pointwise
        have e1 : (64 * (C.val / 64) + d.val) / 128 = C.val / 128 := by omega
        have e2 : (64 * (C.val / 64) + d.val) % 128 = 64 + d.val := by omega
        simp only [e1, e2, e, mul_one]
      · rfl
    · simp only [e, mul_one]
    · funext c
      pointwise

end Cert.Attn

end
-- ==== Proof.Attn.Array.lean ====
/- The attention kernel's result array after its run, as one function of the argument arrays. -/
module

public import proofs.«01_k».proof.Proof.Attn.BlockAt
public import proofs.«01_k».proof.Proof.Gen.KernelIdeal.Value
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- Rows of three buffers laid one after another: 128, 1024 and 128 of them. -/
def ext (a : Vec Ideal S1x128x128 .bf16) (b : Vec Ideal S1x1024x128 .bf16) (d : Vec Ideal S1x128x128 .bf16) (n : ℕ) (hn : n < 1280)
    (l : Fin 128) : EReal :=
  if h : n < 128 then a (ix3 0 ⟨n, h⟩ l) else if h : n - 128 < 1024 then b (ix3 0 ⟨n - 128, h⟩ l)
    else d (ix3 0 ⟨n - 128 - 1024, by omega⟩ l)

theorem keys_apply (a : Vec Ideal S1x128x128 .bf16) (b : Vec Ideal S1x1024x128 .bf16) (d : Vec Ideal S1x128x128 .bf16) (n : Fin 1280) (l : Fin 128) :
    k0_pay2 (F := Ideal) (View.ld a (Rect.unit (s := S1x128x128) ![0, 0, 0] S1x128x128.size inb_S1x128x128_S1x128x128_0_0_0))
      (View.ld b (Rect.unit (s := S1x1024x128) ![0, 0, 0] S1x1024x128.size inb_S1x1024x128_S1x1024x128_0_0_0))
      (View.ld d (Rect.unit (s := S1x128x128) ![0, 0, 0] S1x128x128.size inb_S1x128x128_S1x128x128_0_0_0)) (ix2 n l) = ext a b d n n.isLt l := by
  pointwise [k0_pay2]
  rfl

theorem values_eq : k0_pay3 (F := Ideal) = k0_pay2 := rfl

section
variable (i : grid0.Coords) (arg2 : Memref sig .tc .smem S8 .f32) (harg2 : arg2.IsWhole) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S1x512 .f32) (harg10 : arg10.IsWhole)
    (x0 : Vec Ideal S8 .f32) (x1 : Vec Ideal S1x1024x512 .bf16) (x2 : Vec Ideal S1x128x128 .bf16) (x3 : Vec Ideal S1x1024x128 .bf16) (x4 : Vec Ideal S1x128x128 .bf16) (x5 : Vec Ideal S1x128x128 .bf16) (x6 : Vec Ideal S1x1024x128 .bf16) (x7 : Vec Ideal S1x128x128 .bf16) (x8 : Vec Ideal S1x512 .f32)

theorem blkRd_apply (j : ℕ) (hj : j < 8) (r : Fin 128) (C : Fin 512) :
    blkRd i arg2 harg2 arg3 harg3 arg4 harg4 arg5 harg5 arg6 harg6 arg7 harg7 arg8 harg8 arg9 harg9 arg10 harg10 x0 x1 x2 x3 x4 x5 x6 x7 x8 j hj (ix3 0 r C)
      = rms (row (8 * (i 1).val + j) r (fun C => x1 (ix3 0 ⟨128 * j + r.val, by omega⟩ C))
          (fun c l => ext x2 x3 x4 (128 * j + c.val) (by omega) l) (fun c l => ext x5 x6 x7 (128 * j + c.val) (by omega) l)
          (fun k => x0 (ix1 k))) (fun x => x8 (ix2 0 x)) C := by
  unfold blkRd
  simp only [rd_eq, values_eq]
  rw [blk_apply _ (i 1).isLt]
  congr 1
  · congr 1
    · funext C
      pointwise
      congr 3
      omega
    · funext c l
      exact keys_apply x2 x3 x4 ⟨128 * j + c.val, by omega⟩ l
    · funext c l
      exact keys_apply x5 x6 x7 ⟨128 * j + c.val, by omega⟩ l
    · funext k
      pointwise
  · funext x
    pointwise

end

variable (m : (ℓ : Loc nD τ sig) → Buf (Elt Ideal) ℓ)

theorem ix_q : ∀ t : Fin cfg0.N, win0_1.index t = ![(grid0.coords t 0).val, (grid0.coords t 1).val, 0] :=
  (by decide +kernel : ∀ t : Fin grid0.N, win0_1.index t = ![(grid0.coords t 0).val, (grid0.coords t 1).val, 0])

theorem ix_o : ∀ t : Fin cfg0.N, win0_9.index t = ![(grid0.coords t 0).val, (grid0.coords t 1).val, 0] :=
  (by decide +kernel : ∀ t : Fin grid0.N, win0_9.index t = ![(grid0.coords t 0).val, (grid0.coords t 1).val, 0])

theorem ix_prev : ∀ t : Fin cfg0.N, win0_2.index t = ![(grid0.coords t 0).val, 8 * (grid0.coords t 1).val - 1, 0] ∧ win0_5.index t = ![(grid0.coords t 0).val, 8 * (grid0.coords t 1).val - 1, 0] :=
  (by decide +kernel : ∀ t : Fin grid0.N, win0_2.index t = ![(grid0.coords t 0).val, 8 * (grid0.coords t 1).val - 1, 0] ∧ win0_5.index t = ![(grid0.coords t 0).val, 8 * (grid0.coords t 1).val - 1, 0])

theorem ix_own : ∀ t : Fin cfg0.N, win0_3.index t = ![(grid0.coords t 0).val, (grid0.coords t 1).val, 0] ∧ win0_6.index t = ![(grid0.coords t 0).val, (grid0.coords t 1).val, 0] :=
  (by decide +kernel : ∀ t : Fin grid0.N, win0_3.index t = ![(grid0.coords t 0).val, (grid0.coords t 1).val, 0] ∧ win0_6.index t = ![(grid0.coords t 0).val, (grid0.coords t 1).val, 0])

theorem ix_next : ∀ t : Fin cfg0.N, win0_4.index t = ![(grid0.coords t 0).val, min (8 * (grid0.coords t 1).val + 8) 127, 0] ∧ win0_7.index t = ![(grid0.coords t 0).val, min (8 * (grid0.coords t 1).val + 8) 127, 0] :=
  (by decide +kernel : ∀ t : Fin grid0.N, win0_4.index t = ![(grid0.coords t 0).val, min (8 * (grid0.coords t 1).val + 8) 127, 0] ∧ win0_7.index t = ![(grid0.coords t 0).val, min (8 * (grid0.coords t 1).val + 8) 127, 0])

theorem ix_s : ∀ t : Fin cfg0.N, win0_0.index t = ![0] ∧ win0_8.index t = ![0, 0] :=
  (by decide +kernel : ∀ t : Fin grid0.N, win0_0.index t = ![0] ∧ win0_8.index t = ![0, 0])

/-- The position of key `c` of the 384 around block `B`, as the kernel reads it: the first and the last block stand in
    for the neighbours that do not exist. -/
def kpos (B c : ℕ) : ℕ := 128 * min (B + c / 128 - 1) 127 + c % 128

theorem kpos_lt (B c : ℕ) : kpos B c < 16384 := by unfold kpos; omega

/-- The result the kernel leaves, element by element. -/
def attnOut (sk : Vec Ideal S8 .f32) (q : Vec Ideal S2x16384x512 .bf16) (k v : Vec Ideal S2x16384x128 .bf16) (gain : Vec Ideal S1x512 .f32) :
    Vec Ideal S2x16384x512 .bf16 := fun y =>
  rms (row ((y 1).val / 128) ((y 1).val % 128) (fun C => q (ix3 (y 0) (y 1) C))
    (fun c l => k (ix3 (y 0) ⟨kpos ((y 1).val / 128) c, kpos_lt _ _⟩ l)) (fun c l => v (ix3 (y 0) ⟨kpos ((y 1).val / 128) c, kpos_lt _ _⟩ l))
    (fun n => sk (ix1 n))) (fun x => gain (ix2 0 x)) (y 2)

/-- The staged output block in terms of the staged input blocks. -/
theorem out_apply (c : Dev nD) (t : Fin cfg0.N) (y : S1x1024x512.Idx) :
    outsAt0 m c t y = blkRd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t) (iblk m c 7 t) (iblk m c 8 t)
      ((y 1).val / 128) (by have : (y 1).val < 1024 := (y 1).isLt; omega) (ix3 0 ⟨(y 1).val % 128, by omega⟩ (y 2)) := by
  unfold outsAt0 out0_A_9
  rw [View.read_writes_eq_canon VO0_9 _ _ (cover0_A_9 c _ _ _ _ _ _ _ _ _ _ _ _ _ _ _ _ _ _ _ _ _ _ _ _ _ _ _ _ _ _)]
  refine View.canon_apply_of_pieces (Val := Elt Ideal) (fun y : S1x1024x512.Idx => blkRd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t) (iblk m c 7 t) (iblk m c 8 t)
      ((y 1).val / 128) (by have : (y 1).val < 1024 := (y 1).isLt; omega) (ix3 0 ⟨(y 1).val % 128, by omega⟩ (y 2))) _ ?_ y
    (cover0_A_9 c _ _ _ _ _ _ _ _ _ _ _ _ _ _ _ _ _ _ _ _ _ _ _ _ _ _ _ _ _ _ y)
  rw [pieces]
  have key : ∀ (j : ℕ) (hj : j < 8) (x : S1x128x512.Idx),
      blkRd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t) (iblk m c 7 t) (iblk m c 8 t) j hj x
      = (fun y : S1x1024x512.Idx => blkRd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t) (iblk m c 7 t) (iblk m c 8 t)
      ((y 1).val / 128) (by have : (y 1).val < 1024 := (y 1).isLt; omega) (ix3 0 ⟨(y 1).val % 128, by omega⟩ (y 2)))
        ((Rect.unit (s := S1x1024x512) ![0, 128 * j, 0] ![1, 128, 512] (inbO j hj)).emb x) := by
    intro j hj x
    have hx : (x 1).val < 128 := (x 1).isLt
    have e1 : (((Rect.unit (s := S1x1024x512) ![0, 128 * j, 0] ![1, 128, 512] (inbO j hj)).emb x) 1).val = 128 * j + (x 1).val := by
      rw [Rect.emb_apply]; show 128 * j + 1 * (x 1).val = _; omega
    have e2 : (((Rect.unit (s := S1x1024x512) ![0, 128 * j, 0] ![1, 128, 512] (inbO j hj)).emb x) 2) = x 2 := by
      apply Fin.ext; rw [Rect.emb_apply]; show 0 + 1 * (x 2).val = _; omega
    have e3 : (128 * j + (x 1).val) / 128 = j := by omega
    have e4 : (128 * j + (x 1).val) % 128 = (x 1).val := by omega
    dsimp only
    simp only [e1, e2, e3, e4]
    congr 1
    refine (eq_ix3 x).trans ?_
    have h0 := Subsingleton.elim (α := Fin 1) (x 0) 0
    exact congrArg (fun z : Fin 1 => ix3 z (x 1 : Fin 128) (x 2 : Fin 512)) h0
  intro p hp
  simp only [List.mem_cons, List.not_mem_nil, or_false] at hp
  rcases hp with rfl | rfl | rfl | rfl | rfl | rfl | rfl | rfl
  · exact key 7 (by omega)
  · exact key 6 (by omega)
  · exact key 5 (by omega)
  · exact key 4 (by omega)
  · exact key 3 (by omega)
  · exact key 2 (by omega)
  · exact key 1 (by omega)
  · exact key 0 (by omega)

theorem ext_eq (c : Dev nD) (t : Fin cfg0.N) (a : Buf (Elt Ideal) ((c : Thread nD τ).loc main_arg2)) (x : Vec Ideal S1x128x128 .bf16)
    (y : Vec Ideal S1x1024x128 .bf16) (z : Vec Ideal S1x128x128 .bf16)
    (hx : ∀ (n : Fin 128) (l : Fin 128), x (ix3 0 n l) = a (ix3 (grid0.coords t 0) ⟨128 * (8 * (grid0.coords t 1).val - 1) + n.val, by have : (grid0.coords t 1).val < 16 := (grid0.coords t 1).isLt; omega⟩ l))
    (hy : ∀ (n : Fin 1024) (l : Fin 128), y (ix3 0 n l) = a (ix3 (grid0.coords t 0) ⟨1024 * (grid0.coords t 1).val + n.val, by have : (grid0.coords t 1).val < 16 := (grid0.coords t 1).isLt; omega⟩ l))
    (hz : ∀ (n : Fin 128) (l : Fin 128), z (ix3 0 n l) = a (ix3 (grid0.coords t 0) ⟨128 * min (8 * (grid0.coords t 1).val + 8) 127 + n.val, by omega⟩ l))
    (j : ℕ) (hj : j < 8) (n : Fin 384) (l : Fin 128) :
    ext x y z (128 * j + n.val) (by omega) l = a (ix3 (grid0.coords t 0) ⟨kpos (8 * (grid0.coords t 1).val + j) n, kpos_lt _ _⟩ l) := by
  have h16 : (grid0.coords t 1).val < 16 := (grid0.coords t 1).isLt
  unfold ext kpos
  split_ifs with h1 h2
  · rw [hx]; congr 2; apply Fin.ext; dsimp only; omega
  · rw [hy]; congr 2; apply Fin.ext; dsimp only; omega
  · rw [hz]; congr 2; apply Fin.ext; dsimp only; omega

theorem read_q (c : Dev nD) (t : Fin cfg0.N) (a : Fin 1024) (l : Fin 512) : iblk m c 1 t (ix3 0 a l)
    = m ((c : Thread nD τ).loc main_arg1) (ix3 (grid0.coords t 0) ⟨1024 * (grid0.coords t 1).val + a.val, by have : (grid0.coords t 1).val < 16 := (grid0.coords t 1).isLt; omega⟩ l) := by
  blk_simp [iblk]
  rw [V_main_arg1]
  congr 1
  blk_ext [ix_q t]

theorem read_k_prev (c : Dev nD) (t : Fin cfg0.N) (a : Fin 128) (l : Fin 128) : iblk m c 2 t (ix3 0 a l)
    = m ((c : Thread nD τ).loc main_arg2) (ix3 (grid0.coords t 0) ⟨128 * (8 * (grid0.coords t 1).val - 1) + a.val, by have : (grid0.coords t 1).val < 16 := (grid0.coords t 1).isLt; omega⟩ l) := by
  blk_simp [iblk]
  rw [V_main_arg2]
  congr 1
  blk_ext [(ix_prev t).1]

theorem read_k_own (c : Dev nD) (t : Fin cfg0.N) (a : Fin 1024) (l : Fin 128) : iblk m c 3 t (ix3 0 a l)
    = m ((c : Thread nD τ).loc main_arg2) (ix3 (grid0.coords t 0) ⟨1024 * (grid0.coords t 1).val + a.val, by have : (grid0.coords t 1).val < 16 := (grid0.coords t 1).isLt; omega⟩ l) := by
  blk_simp [iblk]
  rw [V_main_arg2]
  congr 1
  blk_ext [(ix_own t).1]

theorem read_k_next (c : Dev nD) (t : Fin cfg0.N) (a : Fin 128) (l : Fin 128) : iblk m c 4 t (ix3 0 a l)
    = m ((c : Thread nD τ).loc main_arg2) (ix3 (grid0.coords t 0) ⟨128 * min (8 * (grid0.coords t 1).val + 8) 127 + a.val, by have : (grid0.coords t 1).val < 16 := (grid0.coords t 1).isLt; omega⟩ l) := by
  blk_simp [iblk]
  rw [V_main_arg2]
  congr 1
  blk_ext [(ix_next t).1]

theorem read_v_prev (c : Dev nD) (t : Fin cfg0.N) (a : Fin 128) (l : Fin 128) : iblk m c 5 t (ix3 0 a l)
    = m ((c : Thread nD τ).loc main_arg3) (ix3 (grid0.coords t 0) ⟨128 * (8 * (grid0.coords t 1).val - 1) + a.val, by have : (grid0.coords t 1).val < 16 := (grid0.coords t 1).isLt; omega⟩ l) := by
  blk_simp [iblk]
  rw [V_main_arg3]
  congr 1
  blk_ext [(ix_prev t).2]

theorem read_v_own (c : Dev nD) (t : Fin cfg0.N) (a : Fin 1024) (l : Fin 128) : iblk m c 6 t (ix3 0 a l)
    = m ((c : Thread nD τ).loc main_arg3) (ix3 (grid0.coords t 0) ⟨1024 * (grid0.coords t 1).val + a.val, by have : (grid0.coords t 1).val < 16 := (grid0.coords t 1).isLt; omega⟩ l) := by
  blk_simp [iblk]
  rw [V_main_arg3]
  congr 1
  blk_ext [(ix_own t).2]

theorem read_v_next (c : Dev nD) (t : Fin cfg0.N) (a : Fin 128) (l : Fin 128) : iblk m c 7 t (ix3 0 a l)
    = m ((c : Thread nD τ).loc main_arg3) (ix3 (grid0.coords t 0) ⟨128 * min (8 * (grid0.coords t 1).val + 8) 127 + a.val, by have : (grid0.coords t 1).val < 16 := (grid0.coords t 1).isLt; omega⟩ l) := by
  blk_simp [iblk]
  rw [V_main_arg3]
  congr 1
  blk_ext [(ix_next t).2]

theorem read_sink (c : Dev nD) (t : Fin cfg0.N) (a : Fin 8) : iblk m c 0 t (ix1 a) = m ((c : Thread nD τ).loc main_arg0) (ix1 a) := by
  blk_simp [iblk]
  rw [V_main_arg0]
  congr 1
  blk_ext [(ix_s t).1]

theorem read_gain (c : Dev nD) (t : Fin cfg0.N) (a : Fin 512) : iblk m c 8 t (ix2 0 a) = m ((c : Thread nD τ).loc main_arg4) (ix2 0 a) := by
  blk_simp [iblk]
  rw [V_main_arg4]
  congr 1
  blk_ext [(ix_s t).2]

theorem attnOut_apply (sk : Vec Ideal S8 .f32) (q : Vec Ideal S2x16384x512 .bf16) (k v : Vec Ideal S2x16384x128 .bf16) (gain : Vec Ideal S1x512 .f32)
    (b : Fin 2) (p : Fin 16384) (C : Fin 512) : attnOut sk q k v gain (ix3 b p C)
      = rms (row (p.val / 128) (p.val % 128) (fun C => q (ix3 b p C)) (fun c l => k (ix3 b ⟨kpos (p.val / 128) c, kpos_lt _ _⟩ l))
          (fun c l => v (ix3 b ⟨kpos (p.val / 128) c, kpos_lt _ _⟩ l)) (fun n => sk (ix1 n))) (fun x => gain (ix2 0 x)) C := rfl

theorem block_value (c : Dev nD) (t : Fin cfg0.N) (a : Fin 1024) (C : Fin 512) : outsAt0 m c t (ix3 0 a C)
    = attnOut (m ((c : Thread nD τ).loc main_arg0)) (m ((c : Thread nD τ).loc main_arg1)) (m ((c : Thread nD τ).loc main_arg2))
        (m ((c : Thread nD τ).loc main_arg3)) (m ((c : Thread nD τ).loc main_arg4))
        (ix3 (grid0.coords t 0) ⟨1024 * (grid0.coords t 1).val + a.val, by have : (grid0.coords t 1).val < 16 := (grid0.coords t 1).isLt; omega⟩ C) := by
  have h16 : (grid0.coords t 1).val < 16 := (grid0.coords t 1).isLt
  have e1 : (1024 * (grid0.coords t 1).val + a.val) / 128 = 8 * (grid0.coords t 1).val + a.val / 128 := by omega
  have e2 : (1024 * (grid0.coords t 1).val + a.val) % 128 = a.val % 128 := by omega
  have e3 : 128 * (a.val / 128) + a.val % 128 = a.val := by omega
  refine (out_apply m c t _).trans ((blkRd_apply (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (a.val / 128) (by omega) ⟨a.val % 128, by omega⟩ C).trans (Eq.trans ?_ (attnOut_apply _ _ _ _ _ _ _ _).symm))
  simp only [e1, e2, e3]
  congr 1
  · congr 1
    · funext C
      exact read_q m c t a C
    · funext n l
      exact ext_eq c t _ _ _ _ (read_k_prev m c t) (read_k_own m c t) (read_k_next m c t) (a.val / 128) (by omega) n l
    · funext n l
      exact ext_eq c t _ _ _ _ (read_v_prev m c t) (read_v_own m c t) (read_v_next m c t) (a.val / 128) (by omega) n l
    · funext k
      exact read_sink m c t k
  · funext x
    exact read_gain m c t x

/-- THE ARRAY the kernel leaves. -/
theorem final (c : Dev nD) : (dats m 0 c).arrAt 9 cfg0.N
    = attnOut (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 9 _ (by decide +kernel) fun t hf y => ?_
  blk_simp
  rw [after0_9]
  have h0 : y = ix3 (0 : Fin 1) (y 1 : Fin 1024) (y 2 : Fin 512) :=
    (eq_ix3 (f := y)).trans (congrArg (fun z : Fin 1 => ix3 z (y 1 : Fin 1024) (y 2 : Fin 512)) (Subsingleton.elim (α := Fin 1) _ _))
  refine (congrArg _ h0).trans ((block_value m c t (y 1) (y 2)).trans (congrArg _ ?_))
  blk_ext [ix_o t]

end Cert.Attn

end
-- ==== Proof.Attn.Equation.lean ====
module

public import proofs.«01_k».proof.Proof.Attn.RefRow
public import proofs.«01_k».proof.Proof.Attn.RefTail
public import proofs.«01_k».proof.Proof.Attn.Array

/-! The attention kernel's result is the reference's, when the sinks, the queries and the keys are real numbers. -/

@[expose] public section

set_option maxRecDepth 16384

noncomputable section

namespace Cert.Attn

open Idealize.ShloMosaic Idealize.ShloMosaic.TcCoe Idealize.SL.Sem Cert.ReferenceIdeal.Read

/-- Values that no query sees do not matter: their weight is zero. -/
theorem att2_congr {n : ℕ} (P : Fin n → Prop) [DecidablePred P] (x : Fin n → ℝ) (y : EReal) (v v' : Fin n → EReal)
    (h : ∀ c, P c → v c = v' c) : att2 (lg P x) y v = att2 (lg P x) y v' := by
  unfold att2
  refine congrArg (· * _) (Finset.sum_congr rfl fun c _ => ?_)
  by_cases hc : P c
  · rw [h c hc]
  · have : w2 (lg P x) y c = 0 := by
      unfold w2 lg
      rw [if_neg hc, EReal.bot_sub, Ideal.exp2_bot]
    rw [this, zero_mul, zero_mul]

theorem bits_eight : Ideal.ofBits .f32 0x41000000#32 = ((8 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_eighth : Ideal.ofBits .f32 0x3E000000#32 = (((8 : ℝ)⁻¹ : ℝ) : EReal) := by
  simp [Ideal.ofBits, Ideal.ieee, -EReal.coe_mul]; norm_num
theorem bits_512 : Ideal.ofBits .f32 0x44000000#32 = ((512 : ℝ) : EReal) := by
  simp [Ideal.ofBits, Ideal.ieee, -EReal.coe_mul]; norm_num
theorem bits_512th : Ideal.ofBits .f32 0x3B000000#32 = (((512 : ℝ)⁻¹ : ℝ) : EReal) := by
  simp [Ideal.ofBits, Ideal.ieee, -EReal.coe_mul]; norm_num
theorem bits_zero : Ideal.ofBits .f32 0x00000000#32 = 0 := by
  simp [Ideal.ofBits, Ideal.ieee, -EReal.coe_mul]

/-- The kernel multiplies by a five hundred and twelfth where the reference divides. -/
theorem rms_eq (y gain : Fin 512 → EReal) (C : Fin 512) : rms y gain C = Ref.rmsR y gain C := by
  unfold rms Ref.rmsR
  rw [bits_zero, zero_add, bits_512, bits_512th]
  have h : ∀ s : EReal, Ideal.div s ((512 : ℝ) : EReal) = s * (((512 : ℝ)⁻¹ : ℝ) : EReal) := by
    intro s
    unfold Ideal.div
    rw [if_neg (by exact_mod_cast (by norm_num : (512 : ℝ) ≠ 0)), EReal.coe_inv]
  rw [h]

/-- The scale that the reference folds into its queries, an eighth of which is the change of base. -/
theorem scale_real : Ideal.ofBits .f32 0x41000000#32 * Ideal.log (Ideal.ofBits .f32 0x40000000#32) = ((8 * ln2 : ℝ) : EReal) := by
  rw [bits_eight, bits_two, Ideal.log_coe, if_neg (by norm_num), ← EReal.coe_mul]
  rfl

theorem logit_real (a b : Fin 64 → ℝ) :
    (∑ d, (b d : EReal) * ((a d : EReal) * ((8 * ln2 : ℝ) : EReal))) * (((8 : ℝ)⁻¹ : ℝ) : EReal) = ((ln2 * ∑ d, a d * b d : ℝ) : EReal) := by
  simp only [← EReal.coe_mul, ← coe_sum]
  refine congrArg _ ?_
  rw [Finset.mul_sum, Finset.sum_mul]
  exact Finset.sum_congr rfl fun d _ => by ring

variable (x0 : (⟨Cert.ReferenceIdeal.S8, .f32⟩ : BufTy).Contents (Elt Ideal)) (x1 : (⟨Cert.ReferenceIdeal.S2x16384x512, .bf16⟩ : BufTy).Contents (Elt Ideal)) (x2 x3 : (⟨Cert.ReferenceIdeal.S2x16384x128, .bf16⟩ : BufTy).Contents (Elt Ideal)) (x4 : (⟨Cert.ReferenceIdeal.S1x512, .f32⟩ : BufTy).Contents (Elt Ideal))

/-- A window's key that a query sees is the kernel's key. -/
theorem seen (y : (⟨Cert.ReferenceIdeal.S2x16384x128, .bf16⟩ : BufTy).Contents (Elt Ideal)) (b : Fin 2) (B : Fin 128) (r : Fin 128) (c : Fin 384) (g : Fin 2) (d : Fin 64)
    (hv : vis B.val r.val c.val) (l : Fin 128) (hl : l.val = g.val * 64 + d.val) :
    ∃ (h1 : 128 ≤ B.val * 128 + c.val) (h2 : B.val * 128 + c.val < 16512),
      y (ix3 b ⟨B.val * 128 + c.val - 128, by omega⟩ ⟨g.val * 64 + d.val, by omega⟩) = y (ix3 b ⟨kpos B.val c.val, kpos_lt _ _⟩ l) := by
  have hB := B.isLt
  have hc := c.isLt
  unfold vis at hv
  refine ⟨by omega, by omega, ?_⟩
  have e1 : (⟨B.val * 128 + c.val - 128, by omega⟩ : Fin 16384) = ⟨kpos B.val c.val, kpos_lt _ _⟩ := Fin.ext (by simp only [kpos]; omega)
  have e2 : (⟨g.val * 64 + d.val, by omega⟩ : Fin 128) = l := Fin.ext hl.symm
  rw [e1, e2]

theorem win_key (b : Fin 2) (B r : Fin 128) (c : Fin 384) (g : Fin 2) (d : Fin 64) (hv : vis B.val r.val c.val)
    (n : Fin 256) (hn : n.val = b.val * 128 + B.val) (l : Fin 128) (hl : l.val = g.val * 64 + d.val) :
    val_main_v16 (F := Ideal) x2 (ix4 n c g d) = x2 (ix3 b ⟨kpos B.val c.val, kpos_lt _ _⟩ l) := by
  have hB := B.isLt
  have e1 : n.val / 128 = b.val := by omega
  have e2 : n.val % 128 = B.val := by omega
  obtain ⟨h1, h2, h⟩ := seen x2 b B r c g d hv l hl
  refine (Ref.win16_apply x2 n c g d (by rw [e2]; exact h1) (by rw [e2]; exact h2)).trans (Eq.trans ?_ h)
  simp only [e1, e2]

theorem win_value (b : Fin 2) (B r : Fin 128) (c : Fin 384) (g : Fin 2) (d : Fin 64) (hv : vis B.val r.val c.val)
    (n : Fin 256) (hn : n.val = b.val * 128 + B.val) (l : Fin 128) (hl : l.val = g.val * 64 + d.val) :
    val_main_v23 (F := Ideal) x3 (ix4 n c g d) = x3 (ix3 b ⟨kpos B.val c.val, kpos_lt _ _⟩ l) := by
  have hB := B.isLt
  have e1 : n.val / 128 = b.val := by omega
  have e2 : n.val % 128 = B.val := by omega
  obtain ⟨h1, h2, h⟩ := seen x3 b B r c g d hv l hl
  refine (Ref.win23_apply x3 n c g d (by rw [e2]; exact h1) (by rw [e2]; exact h2)).trans (Eq.trans ?_ h)
  simp only [e1, e2]

/-- One lane of one query's attention, before the scaling. -/
theorem row_eq (s : Fin 8 → ℝ) (q : Fin 2 → Fin 16384 → Fin 512 → ℝ) (k : Fin 2 → Fin 16384 → Fin 128 → ℝ)
    (hs : ∀ n, x0 (ix1 n) = (s n : EReal)) (hq : ∀ b p C, x1 (ix3 b p C) = (q b p C : EReal)) (hk : ∀ b p l, x2 (ix3 b p l) = (k b p l : EReal))
    (b : Fin 2) (B r : Fin 128) (p : Fin 16384) (hp : p.val = B.val * 128 + r.val) (g : Fin 2) (h : Fin 4) (d : Fin 64) (n : Fin 256)
    (hn : n.val = b.val * 128 + B.val) (C : Fin 512) (hC : C.val = h.val * 128 + g.val * 64 + d.val) :
    row B.val r.val (fun C => x1 (ix3 b p C)) (fun c l => x2 (ix3 b ⟨kpos B.val c, kpos_lt _ _⟩ l))
        (fun c l => x3 (ix3 b ⟨kpos B.val c, kpos_lt _ _⟩ l)) (fun n => x0 (ix1 n)) C
      = val_main_v81 (F := Ideal) x0 x1 x2 x3 (ix5 n g d h r) := by
  have hB := B.isLt
  have hr := r.isLt
  have hg := g.isLt
  have hh := h.isLt
  have hd := d.isLt
  have hb := b.isLt
  have en1 : n.val / 128 = b.val := by omega
  have en2 : n.val % 128 = B.val := by omega
  have ec1 : C.val / 64 = h.val * 2 + g.val := by omega
  have ec2 : C.val % 128 / 64 = g.val := by omega
  have ec3 : C.val / 128 = h.val := by omega
  let X : Fin 384 → ℝ := fun c => ∑ x : Fin 64, q b p ⟨64 * (C.val / 64) + x.val, by omega⟩ * k b ⟨kpos B.val c, kpos_lt _ _⟩ ⟨64 * (C.val % 128 / 64) + x.val, by omega⟩
  let y : ℝ := s ⟨4 * (C.val % 128 / 64) + C.val / 128, by omega⟩ * (Real.log 2)⁻¹
  have ey : ln2 * y = s ⟨g.val * 4 + h.val, by omega⟩ := by
    have h2 : Real.log 2 ≠ 0 := ln2_pos.ne'
    have es : (⟨4 * (C.val % 128 / 64) + C.val / 128, by omega⟩ : Fin 8) = ⟨g.val * 4 + h.val, by omega⟩ := Fin.ext (by simp only [ec2, ec3]; omega)
    show Real.log 2 * (s _ * (Real.log 2)⁻¹) = _
    rw [es]
    field_simp
  have ek : row B.val r.val (fun C => x1 (ix3 b p C)) (fun c l => x2 (ix3 b ⟨kpos B.val c, kpos_lt _ _⟩ l))
        (fun c l => x3 (ix3 b ⟨kpos B.val c, kpos_lt _ _⟩ l)) (fun n => x0 (ix1 n)) C
      = att2 (lg (fun c : Fin 384 => vis B.val r.val c.val) X) (y : EReal) (fun c => x3 (ix3 b ⟨kpos B.val c, kpos_lt _ _⟩ ⟨C.val % 128, by omega⟩)) := by
    unfold row lg
    simp only [hq, hk, hs, ← EReal.coe_mul, ← coe_sum]
    rfl
  have ef : (fun c => val_main_v64 (F := Ideal) x1 x2 (ix5 n g h r c)) = lg (fun c : Fin 384 => vis B.val r.val c.val) (fun c => ln2 * X c) := by
    funext c
    refine (Ref.logit_apply x1 x2 n g h r c).trans ?_
    unfold lg
    rw [en2]
    by_cases hv : vis B.val r.val c.val
    · rw [if_pos hv, if_pos hv, bits_eighth, ← logit_real]
      refine congrArg (· * _) (Finset.sum_congr rfl fun x _ => ?_)
      rw [win_key x2 b B r c g x hv n hn ⟨64 * (C.val % 128 / 64) + x.val, by omega⟩ (by simp only [ec2]; omega), Ref.query_apply, scale_real, hk, ← hq]
      have e1 : (⟨n.val / 128, by omega⟩ : Fin 2) = b := Fin.ext en1
      have e2 : (⟨n.val % 128 * 128 + r.val, by omega⟩ : Fin 16384) = p := Fin.ext (by simp only [en2]; omega)
      have e3 : (⟨h.val * 128 + g.val * 64 + x.val, by omega⟩ : Fin 512) = ⟨64 * (C.val / 64) + x.val, by omega⟩ := Fin.ext (by simp only [ec1]; omega)
      rw [e1, e2, e3]
    · rw [if_neg hv, if_neg hv]
  have er : val_main_v81 (F := Ideal) x0 x1 x2 x3 (ix5 n g d h r)
      = attE (lg (fun c : Fin 384 => vis B.val r.val c.val) (fun c => ln2 * X c)) ((ln2 * y : ℝ) : EReal) (fun c => val_main_v23 (F := Ideal) x3 (ix4 n c g d)) := by
    refine (Ref.mix_apply x0 x1 x2 x3 n g d h r).trans ?_
    unfold attE
    refine Finset.sum_congr rfl fun c _ => ?_
    rw [Ref.weight_apply, ef, hs, ← ey, mul_comm]
  rw [ek, er, ← att_eq]
  refine att2_congr _ _ _ _ _ fun c hv => ?_
  exact (win_value x3 b B r c g d hv n hn _ (by show C.val % 128 = _; omega)).symm

theorem equation (hs : ∀ n, x0 (ix1 n) ≠ ⊤ ∧ x0 (ix1 n) ≠ ⊥) (hq : ∀ b p C, x1 (ix3 b p C) ≠ ⊤ ∧ x1 (ix3 b p C) ≠ ⊥)
    (hk : ∀ b p l, x2 (ix3 b p l) ≠ ⊤ ∧ x2 (ix3 b p l) ≠ ⊥) (b : Fin 2) (p : Fin 16384) (C : Fin 512) :
    attnOut x0 x1 x2 x3 x4 (ix3 b p C) = val_main_v98 (F := Ideal) x0 x1 x2 x3 x4 (ix3 b p C) := by
  refine (attnOut_apply x0 x1 x2 x3 x4 b p C).trans (Eq.trans ?_ (Ref.out_apply x0 x1 x2 x3 x4 b p C).symm)
  refine (rms_eq _ _ C).trans (congrArg (fun y => Ref.rmsR y _ C) (funext fun C => ?_))
  have hp := p.isLt
  have hb := b.isLt
  have hC := C.isLt
  refine (row_eq x0 x1 x2 x3 (fun n => (x0 (ix1 n) : EReal).toReal) (fun b p C => (x1 (ix3 b p C) : EReal).toReal) (fun b p l => (x2 (ix3 b p l) : EReal).toReal)
    (fun n => (EReal.coe_toReal (hs n).1 (hs n).2).symm) (fun b p C => (EReal.coe_toReal (hq b p C).1 (hq b p C).2).symm)
    (fun b p l => (EReal.coe_toReal (hk b p l).1 (hk b p l).2).symm) b ⟨p.val / 128, by omega⟩ ⟨p.val % 128, by omega⟩ p (by show p.val = p.val / 128 * 128 + p.val % 128; omega)
    ⟨C.val / 64 % 2, by omega⟩ ⟨C.val / 128, by omega⟩ ⟨C.val % 64, by omega⟩ ⟨b.val * 128 + p.val / 128, by omega⟩ rfl C
    (by show C.val = C.val / 128 * 128 + C.val / 64 % 2 * 64 + C.val % 64; omega)).trans (Ref.heads_apply x0 x1 x2 x3 b p C).symm

end Cert.Attn

end
-- ==== Proof.Attn.Claim.lean ====
module

public import proofs.«01_k».proof.Proof.Attn.Equation
public import proofs.«01_k».proof.Defs
public import proofs.«01_k».proof.Proof.Gen.ReferenceIdeal.Run
public import proofs.«01_k».proof.Proof.Gen.Pre_finite
public import Idealize.ShloMosaic.Lib.ReduceAll

/-! The claims of the attention call. -/

@[expose] public section

set_option maxRecDepth 16384

noncomputable section

namespace Cert.Attn

open Idealize.ShloMosaic Idealize.ShloMosaic.TcCoe Idealize.SL.Sem Cert.ReferenceIdeal.Read

/-- Below infinity in absolute value: neither infinity. -/
theorem real_of_bit (x : EReal) (h : Ideal.cmp .olt (max x (-x)) (Ideal.ofBits .f32 0x7F800000#32) = 1#1) : x ≠ ⊤ ∧ x ≠ ⊥ := by
  have e : Ideal.ofBits .f32 0x7F800000#32 = (⊤ : EReal) := by simp [Ideal.ofBits, Ideal.ieee, -EReal.coe_mul]
  rw [e] at h
  constructor
  · rintro rfl
    simp [Ideal.cmp] at h
  · rintro rfl
    simp [Ideal.cmp] at h

theorem and_left {a b : BitVec 1} (h : IntOp.andi a b = 1#1) : a = 1#1 := by
  revert a b; decide
theorem and_right {a b : BitVec 1} (h : IntOp.andi a b = 1#1) : b = 1#1 := by
  revert a b; decide

instance : Subsingleton Cert.Pre_finite.S_.Idx := ⟨fun a b => funext fun i => i.elim0⟩

/-- What the precondition says of the arrays. -/
theorem finite_spec (x0 : FVec Ideal Cert.Pre_finite.S8 .f32) (x1 : FVec Ideal Cert.Pre_finite.S2x16384x512 .bf16)
    (x2 x3 : FVec Ideal Cert.Pre_finite.S2x16384x128 .bf16) (x4 : FVec Ideal Cert.Pre_finite.S1x512 .f32)
    (h : @Cert.Pre_finite.fn Cert.Pre_finite.Gen.facts Ideal _ x0 x1 x2 x3 x4 = fun _ => 1#1) :
    (∀ i, x0 i ≠ (⊤ : EReal) ∧ x0 i ≠ (⊥ : EReal)) ∧ (∀ i, x1 i ≠ (⊤ : EReal) ∧ x1 i ≠ (⊥ : EReal)) ∧ ∀ i, x2 i ≠ (⊤ : EReal) ∧ x2 i ≠ (⊥ : EReal) := by
  have h0 := congrFun h ix0
  dsimp only [Cert.Pre_finite.fn] at h0
  have ha := and_left (and_left h0)
  have hb := and_right (and_left h0)
  have hc := and_right h0
  exact ⟨fun i => real_of_bit _ (Host.reduce_andi_all _ _ _ _ _ ha i), fun i => real_of_bit _ (Host.reduce_andi_all _ _ _ _ _ hb i),
    fun i => real_of_bit _ (Host.reduce_andi_all _ _ _ _ _ hc i)⟩

/-- The reference's run ends with its result at the value that the modules above read. -/
theorem ref_result (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => ∀ c : Dev Cert.ReferenceIdeal.nD,
      r.2.mem ((c.tc : Thread Cert.ReferenceIdeal.nD Cert.ReferenceIdeal.τ).loc Cert.ReferenceIdeal.main_v98)
        = val_main_v98 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) :=
  (θ_run Cert.ReferenceIdeal.defs _ _).mono (fun r h c => ⟨(h c).1.trans (val_main_v98_eq (F := Ideal) (StableHlo.launchContents m c)), (h c).2⟩)
    (Cert.ReferenceIdeal.Value.run (F := Ideal) m g)

theorem quiescent_reference : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

theorem algebraic : @Cert.algebraic_KernelIdeal_ReferenceIdeal_pre_finite Cert.KernelIdeal.Gen.facts Cert.ReferenceIdeal.Gen.facts Cert.Pre_finite.Gen.facts := by
  intro m g m' g' hpre hargs
  refine ⟨fun c => attnOut (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4)), ?_, ?_⟩
  · exact (θ_run Cert.KernelIdeal.defs _ _).mono (fun r h c => ⟨(h c).1.trans (final m c), (h c).2⟩) (Cert.KernelIdeal.Value.run_blocks (F := Ideal) m g)
  · refine (θ_run Cert.ReferenceIdeal.defs _ _).mono (fun r h c => ⟨(h c).1.trans ?_, (h c).2⟩) (ref_result m' g')
    obtain ⟨e0, e1, e2, e3, e4⟩ := hargs c
    obtain ⟨f0, f1, f2⟩ := finite_spec _ _ _ _ _ (hpre c)
    rw [e0, e1, e2, e3, e4]
    refine funext fun i => ?_
    have hi := eq_ix3 (f := i)
    rw [hi]
    exact (equation _ _ _ _ _ (fun n => f0 _) (fun b p C => f1 _) (fun b p l => f2 _) (i 0) (i 1) (i 2)).symm

end Cert.Attn

end
-- ==== Proof.Ffn.Block.lean ====
/- What the feed-forward kernel's body computes for one tile of 512 rows, in the operations of the printed program: the
   up-projection by chunks of 256 columns kept in a scratch buffer of four slots, the three-tap convolution read back from it by
   every other row, the gated product, the down-projection added up chunk by chunk, and the rows put back in order through a
   second scratch buffer. The tile is `tile`. -/
module

public import proofs.«01_k».proof.Proof.Gen.Kernel2Ideal.Frame

@[expose] public section

set_option maxRecDepth 16384

noncomputable section

namespace Cert.Ffn

open Cert.Kernel2Ideal Cert.Kernel2Ideal.Gen Idealize.ShloMosaic Idealize.ShloMosaic.TcCoe Idealize.SL.Sem

variable {sig : RefSig} {F : FTy → Type} [FloatOps F]

theorem inbHu (s p c : ℕ) (hs : s < 4) (hp : p < 2) (hc : c < 2) :
    ∀ a, (![s, p, c, 0, 0] : Fin 5 → Nat) a + S1x1x1x528x128.size a ≤ S4x2x2x528x128.size a := by
  intro a; fin_cases a
  · show s + 1 ≤ 4; omega
  · show p + 1 ≤ 2; omega
  · show c + 1 ≤ 2; omega
  · show 0 + 528 ≤ 528; omega
  · show 0 + 128 ≤ 128; omega
theorem inbRow (s p c k : ℕ) (hs : s < 4) (hp : p < 2) (hc : c < 2) (hk : k < 4) :
    ∀ a, S1x1x1x256x128.size a = 0 ∨ (![s, p, c, 7 + k, 0] : Fin 5 → Nat) a + (![1, 1, 1, 2, 1] : Fin 5 → Nat) a * (S1x1x1x256x128.size a - 1) < S4x2x2x528x128.size a := by
  intro a; right; fin_cases a
  · show s + 1 * (1 - 1) < 4; omega
  · show p + 1 * (1 - 1) < 2; omega
  · show c + 1 * (1 - 1) < 2; omega
  · show 7 + k + 2 * (256 - 1) < 528; omega
  · show 0 + 1 * (128 - 1) < 128; omega
theorem inbNat (c p : ℕ) (hc : c < 8) (hp : p < 2) :
    ∀ a, S1x256x128.size a = 0 ∨ (![c, p, 0] : Fin 3 → Nat) a + (![1, 2, 1] : Fin 3 → Nat) a * (S1x256x128.size a - 1) < S8x512x128.size a := by
  intro a; right; fin_cases a
  · show c + 1 * (1 - 1) < 8; omega
  · show p + 2 * (256 - 1) < 512; omega
  · show 0 + 1 * (128 - 1) < 128; omega
theorem inbLane (c : ℕ) (hc : c < 8) : ∀ a, (![c, 0, 0] : Fin 3 → Nat) a + S1x512x128.size a ≤ S8x512x128.size a := by
  intro a; fin_cases a
  · show c + 1 ≤ 8; omega
  · show 0 + 512 ≤ 512; omega
  · show 0 + 128 ≤ 128; omega
theorem slHu (c : ℕ) (hc : c < 2) : S528x256.Slices ![0, 128 * c] S528x128 := by
  exact (by decide : ∀ c : Fin 2, S528x256.Slices ![0, 128 * c.val] S528x128) ⟨c, hc⟩
theorem slAcc (p c : ℕ) (hp : p < 2) (hc : c < 8) : S512x1024.Slices ![256 * p, 128 * c] S256x128 := by
  exact (by decide : ∀ (p : Fin 2) (c : Fin 8), S512x1024.Slices ![256 * p.val, 128 * c.val] S256x128) ⟨p, hp⟩ ⟨c, hc⟩
theorem inbUp (o : ℕ) (ho : o + 256 ≤ 5632) : ∀ a, (![0, o] : Fin 2 → Nat) a + S1024x256.size a ≤ S1024x5632.size a := by
  intro a; fin_cases a
  · show 0 + 1024 ≤ 1024; omega
  · show o + 256 ≤ 5632; omega
theorem inbTap (o : ℕ) (ho : o + 128 ≤ 5632) : ∀ a, (![0, o] : Fin 2 → Nat) a + S3x128.size a ≤ S3x5632.size a := by
  intro a; fin_cases a
  · show 0 + 3 ≤ 3; omega
  · show o + 128 ≤ 5632; omega
theorem inbBias (o : ℕ) (ho : o + 128 ≤ 5632) : ∀ a, (![0, o] : Fin 2 → Nat) a + S1x128.size a ≤ S1x5632.size a := by
  intro a; fin_cases a
  · show 0 + 1 ≤ 1; omega
  · show o + 128 ≤ 5632; omega
theorem inbDown (o : ℕ) (ho : o + 256 ≤ 2816) : ∀ a, (![o, 0] : Fin 2 → Nat) a + S256x1024.size a ≤ S2816x1024.size a := by
  intro a; fin_cases a
  · show o + 256 ≤ 2816; omega
  · show 0 + 1024 ≤ 1024; omega

/-- 128 columns of a chunk of the up-projection, as stored. -/
def hu (h : FVec F S528x1024 .bf16) (w : Vec F S1024x256 .bf16) (c : ℕ) (hc : c < 2) : FVec F S1x1x1x528x128 .f32 :=
  shapeCast S1x1x1x528x128 (extractStridedSlice S528x128 ![0, 128 * c]
    (matmul dot_S528x1024_S1024x256_S528x256_1_0_0_1_n_n none h w (constant S528x256 .f32 0x00000000#32)) (slHu c hc)) shapeCasts_S528x128_S1x1x1x528x128

/-- The stores of the first `m` chunks, last first: four to a chunk, in slot `m % 4`. -/
def pcs (h : FVec F S528x1024 .bf16) (W : (o : ℕ) → o + 256 ≤ 5632 → Vec F S1024x256 .bf16) : (m : ℕ) → m ≤ 11 → List (View.Piece (Elt F) S4x2x2x528x128 .f32)
  | 0, _ => []
  | m + 1, hm =>
    ⟨Rect.unit ![m % 4, 1, 1, 0, 0] S1x1x1x528x128.size (inbHu (m % 4) 1 1 (Nat.mod_lt _ (by omega)) (by omega) (by omega)), hu h (W (2816 + 256 * m) (by omega)) 1 (by omega)⟩ ::
    ⟨Rect.unit ![m % 4, 1, 0, 0, 0] S1x1x1x528x128.size (inbHu (m % 4) 1 0 (Nat.mod_lt _ (by omega)) (by omega) (by omega)), hu h (W (2816 + 256 * m) (by omega)) 0 (by omega)⟩ ::
    ⟨Rect.unit ![m % 4, 0, 1, 0, 0] S1x1x1x528x128.size (inbHu (m % 4) 0 1 (Nat.mod_lt _ (by omega)) (by omega) (by omega)), hu h (W (256 * m) (by omega)) 1 (by omega)⟩ ::
    ⟨Rect.unit ![m % 4, 0, 0, 0, 0] S1x1x1x528x128.size (inbHu (m % 4) 0 0 (Nat.mod_lt _ (by omega)) (by omega) (by omega)), hu h (W (256 * m) (by omega)) 0 (by omega)⟩ ::
    pcs h W m (by omega)

/-- Every other row of a slot, from row `7 + k`. -/
def rowsOf (s : Memref sig .tc .vmem S4x2x2x528x128 .f32) (L : List (View.Piece (Elt F) S4x2x2x528x128 .f32)) (n p c k : ℕ)
    (hp : p < 2) (hc : c < 2) (hk : k < 4) : FVec F S256x128 .f32 :=
  shapeCast S256x128 (s.view.readCov L ⟨![n % 4, p, c, 7 + k, 0], S1x1x1x256x128.size, ![1, 1, 1, 2, 1], inbRow (n % 4) p c k (Nat.mod_lt _ (by omega)) hp hc hk⟩)
    shapeCasts_S1x1x1x256x128_S256x128

/-- Three taps and the bias. -/
def taps (cw : Vec F S3x128 .f32) (cb : Vec F S1x128 .f32) (a b d : FVec F S256x128 .f32) : FVec F S256x128 .f32 :=
  addf (addf (addf (mulf a (broadcastTo S256x128 (extractStridedSlice S1x128 ![0, 0] cw slices_S3x128_o0_0_S1x128) broadcasts_S1x128_S256x128))
    (mulf b (broadcastTo S256x128 (extractStridedSlice S1x128 ![1, 0] cw slices_S3x128_o1_0_S1x128) broadcasts_S1x128_S256x128)))
    (mulf d (broadcastTo S256x128 (extractStridedSlice S1x128 ![2, 0] cw slices_S3x128_o2_0_S1x128) broadcasts_S1x128_S256x128)))
    (broadcastTo S256x128 cb broadcasts_S1x128_S256x128)

/-- The convolution of 128 columns: the even rows, then the odd ones. -/
def conv1 (cw : Vec F S3x128 .f32) (cb : Vec F S1x128 .f32) (r : (k : ℕ) → k < 4 → FVec F S256x128 .f32) : FVec F S512x128 .f32 :=
  concatenate S512x128 0 [⟨S256x128, taps cw cb (r 0 (by omega)) (r 1 (by omega)) (r 2 (by omega))⟩,
    ⟨S256x128, taps cw cb (r 1 (by omega)) (r 2 (by omega)) (r 3 (by omega))⟩] concatenates_S256x128_S256x128_S512x128_d0

/-- The convolution of a chunk's part. -/
def conv (CW : (o : ℕ) → o + 128 ≤ 5632 → Vec F S3x128 .f32) (CB : (o : ℕ) → o + 128 ≤ 5632 → Vec F S1x128 .f32) (o : ℕ) (ho : o + 256 ≤ 5632)
    (r : (c k : ℕ) → c < 2 → k < 4 → FVec F S256x128 .f32) : FVec F S512x256 .f32 :=
  concatenate S512x256 1 [⟨S512x128, conv1 (CW o (by omega)) (CB o (by omega)) (fun k hk => r 0 k (by omega) hk)⟩,
    ⟨S512x128, conv1 (CW (o + 128) (by omega)) (CB (o + 128) (by omega)) (fun k hk => r 1 k (by omega) hk)⟩] concatenates_S512x128_S512x128_S512x256_d1

/-- The gated product of a chunk. -/
def act (g u : FVec F S512x256 .f32) : FVec F S512x256 .bf16 := truncf .bf16 (mulf (mulf g (logistic g)) u) bitsLt_bf16_f32

/-- Chunk `n`'s gated product: its rows are read when the next three chunks are stored too. -/
def actAt (s : Memref sig .tc .vmem S4x2x2x528x128 .f32) (h : FVec F S528x1024 .bf16) (W : (o : ℕ) → o + 256 ≤ 5632 → Vec F S1024x256 .bf16)
    (CW : (o : ℕ) → o + 128 ≤ 5632 → Vec F S3x128 .f32) (CB : (o : ℕ) → o + 128 ≤ 5632 → Vec F S1x128 .f32) (n : ℕ) (hn : n < 11) : FVec F S512x256 .bf16 :=
  act (conv CW CB (256 * n) (by omega) fun c k hc hk => rowsOf s (pcs h W (min (n + 4) 11) (by omega)) n 0 c k (by omega) hc hk)
    (conv CW CB (2816 + 256 * n) (by omega) fun c k hc hk => rowsOf s (pcs h W (min (n + 4) 11) (by omega)) n 1 c k (by omega) hc hk)

/-- The down-projection, added up over the first `n` chunks. -/
def acc (A : (n : ℕ) → n < 11 → FVec F S512x256 .bf16) (WD : (o : ℕ) → o + 256 ≤ 2816 → Vec F S256x1024 .bf16) : (n : ℕ) → n ≤ 11 → FVec F S512x1024 .f32
  | 0, _ => broadcast S512x1024 (Scalar.ofBits .f32 0x00000000#32)
  | n + 1, hn => addf (acc A WD n (by omega)) (matmul dot_S512x256_S256x1024_S512x1024_1_0_0_1_n_n none (A n (by omega)) (WD (256 * n) (by omega))
      (constant S512x1024 .f32 0x00000000#32))

/-- The stores that put the even and the odd rows back between each other, for the first `c` groups of 128 columns, last first. -/
def natp (a : FVec F S512x1024 .f32) : (c : ℕ) → c ≤ 8 → List (View.Piece (Elt F) S8x512x128 .f32)
  | 0, _ => []
  | c + 1, hc =>
    ⟨⟨⟨![c, 1, 0], S1x256x128.size, ![1, 2, 1], inbNat c 1 (by omega) (by omega)⟩, spos_1_2_1⟩,
      shapeCast S1x256x128 (extractStridedSlice S256x128 ![256 * 1, 128 * c] a (slAcc 1 c (by omega) (by omega))) shapeCasts_S256x128_S1x256x128⟩ ::
    ⟨⟨⟨![c, 0, 0], S1x256x128.size, ![1, 2, 1], inbNat c 0 (by omega) (by omega)⟩, spos_1_2_1⟩,
      shapeCast S1x256x128 (extractStridedSlice S256x128 ![256 * 0, 128 * c] a (slAcc 0 c (by omega) (by omega))) shapeCasts_S256x128_S1x256x128⟩ ::
    natp a c (by omega)

/-- A group of 128 columns, read back. -/
def lane (s : Memref sig .tc .vmem S8x512x128 .f32) (a : FVec F S512x1024 .f32) (c : ℕ) (hc : c < 8) : FVec F S512x128 .f32 :=
  shapeCast S512x128 (s.view.readCov (natp a 8 (by omega)) (Rect.unit (s := S8x512x128) ![c, 0, 0] S1x512x128.size (inbLane c hc)).toLoadRect) shapeCasts_S1x512x128_S512x128

/-- The rows in order. -/
def ordered (s : Memref sig .tc .vmem S8x512x128 .f32) (a : FVec F S512x1024 .f32) : FVec F S512x1024 .f32 :=
  concatenate S512x1024 1 [⟨S512x128, lane s a 0 (by omega)⟩, ⟨S512x128, lane s a 1 (by omega)⟩, ⟨S512x128, lane s a 2 (by omega)⟩, ⟨S512x128, lane s a 3 (by omega)⟩,
    ⟨S512x128, lane s a 4 (by omega)⟩, ⟨S512x128, lane s a 5 (by omega)⟩, ⟨S512x128, lane s a 6 (by omega)⟩, ⟨S512x128, lane s a 7 (by omega)⟩]
    concatenates_S512x128_S512x128_S512x128_S512x128_S512x128_S512x128_S512x128_S512x128_S512x1024_d1

/-- The tile as stored, from the embedding's row `e` and the row `x2` after the feed-forward. -/
def gated (e x2 : FVec F S512x1024 .f32) (wg : Vec F S1024x1024 .bf16) (bg : Vec F S1x1024 .f32) : FVec F S1x512x1024 .f32 :=
  shapeCast S1x512x1024 (addf x2 (mulf (logistic (addf
    (matmul dot_S512x1024_S1024x1024_S512x1024_1_0_0_1_n_n none (truncf .bf16 x2 bitsLt_bf16_f32) wg (constant S512x1024 .f32 0x00000000#32))
    (broadcastTo S512x1024 bg broadcasts_S1x1024_S512x1024))) e)) shapeCasts_S512x1024_S1x512x1024

/-- A load from a staging buffer that holds `x`. -/
def rd {sp : Space} {S : Shape} {e : EltTy} (a : Memref sig .tc sp S e) (h : a.IsWhole) (x : Vec F S e) (r : Rect S) : r.shape.Idx → Elt F e :=
  View.readAt (Elt F) a.view r.toLoadRect (h.unread x)

theorem rd_eq {sp : Space} {S : Shape} {e : EltTy} (a : Memref sig .tc sp S e) (h : a.IsWhole) (x : Vec F S e) (r : Rect S) :
    rd a h x r = View.ld x r := by
  unfold rd; rw [View.readAt_eq_ld, h.read_unread]

/-- The rows of the tile with sixteen on either side: the residual stream, -/
def xall (i1 : Vec F S1x16x1024 .f32) (i0 : Vec F S1x512x1024 .f32) (i2 : Vec F S1x16x1024 .f32) : FVec F S544x1024 .f32 := k0_pay2 i1 i0 i2

/-- a slab of the second mixer, -/
def slab (a : Vec F S1x1x16x128 .f32) (b : Vec F S1x1x512x128 .f32) (d : Vec F S1x1x16x128 .f32) : FVec F S544x128 .bf16 :=
  truncf .bf16 (concatenate S544x128 0 [⟨S16x128, shapeCast S16x128 a shapeCasts_S1x1x16x128_S16x128⟩, ⟨S512x128, shapeCast S512x128 b shapeCasts_S1x1x512x128_S512x128⟩,
    ⟨S16x128, shapeCast S16x128 d shapeCasts_S1x1x16x128_S16x128⟩] concatenates_S16x128_S512x128_S16x128_S544x128_d0) bitsLt_bf16_f32

/-- and the two mixers' outputs side by side. -/
def mixed (a : FVec F S544x512 .bf16) (f : (s : ℕ) → s < 4 → FVec F S544x128 .bf16) : FVec F S544x1024 .bf16 :=
  concatenate S544x1024 1 [⟨S544x512, a⟩, ⟨S544x128, f 0 (by omega)⟩, ⟨S544x128, f 1 (by omega)⟩, ⟨S544x128, f 2 (by omega)⟩, ⟨S544x128, f 3 (by omega)⟩]
    concatenates_S544x512_S544x128_S544x128_S544x128_S544x128_S544x1024_d1

/-- The residual stream after the mixers, -/
def xmix (x : FVec F S544x1024 .f32) (mx : FVec F S544x1024 .bf16) (w : Vec F S1024x1024 .bf16) : FVec F S544x1024 .f32 :=
  k0_pay7 x mx w (constant S544x1024 .f32 0x00000000#32)

/-- and its normalised rows, zero outside the sequence. -/
def hid (i : BitVec 32) (x : FVec F S544x1024 .f32) (mx : FVec F S544x1024 .bf16) (w : Vec F S1024x1024 .bf16) (gain : Vec F S1x1024 .f32) : FVec F S528x1024 .bf16 :=
  k0_pay12 (iota .tc S544x1 32 [0] iota_S544x1_d0_w32) (k0_pay9 x mx w (constant S544x1024 .f32 0x00000000#32) gain)
    (Scalar.select (Scalar.cmpi .eq i 31#32) 528#32 544#32) (k0_pay10 i)

theorem inbF16 (s : ℕ) (hs : s < 4) : ∀ a, (![0, s, 0, 0] : Fin 4 → Nat) a + S1x1x16x128.size a ≤ S1x4x16x128.size a := by
  intro a; fin_cases a
  · show 0 + 1 ≤ 1; omega
  · show s + 1 ≤ 4; omega
  · show 0 + 16 ≤ 16; omega
  · show 0 + 128 ≤ 128; omega
theorem inbF512 (s : ℕ) (hs : s < 4) : ∀ a, (![0, s, 0, 0] : Fin 4 → Nat) a + S1x1x512x128.size a ≤ S1x4x512x128.size a := by
  intro a; fin_cases a
  · show 0 + 1 ≤ 1; omega
  · show s + 1 ≤ 4; omega
  · show 0 + 512 ≤ 512; omega
  · show 0 + 128 ≤ 128; omega

section
variable (i : Fin 32) (arg2 : Memref sig .tc .vmem S1x512x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x4x512x128 .f32) (harg8 : arg8.IsWhole) (arg9 : Memref sig .tc .vmem S1x4x16x128 .f32) (harg9 : arg9.IsWhole) (arg10 : Memref sig .tc .vmem S1x4x16x128 .f32) (harg10 : arg10.IsWhole) (arg11 : Memref sig .tc .vmem S1x512x256 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1024x5632 .bf16) (harg14 : arg14.IsWhole) (arg15 : Memref sig .tc .vmem S3x5632 .f32) (harg15 : arg15.IsWhole) (arg16 : Memref sig .tc .vmem S1x5632 .f32) (harg16 : arg16.IsWhole) (arg17 : Memref sig .tc .vmem S2816x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1x512x1024 .f32) (harg22 : arg22.IsWhole) (arg23 : Memref sig .tc .vmem S4x2x2x528x128 .f32) (harg23 : arg23.IsWhole) (arg24 : Memref sig .tc .vmem S8x512x128 .f32) (harg24 : arg24.IsWhole)
    (x0 : Vec F S1x512x1024 .f32) (x1 : Vec F S1x16x1024 .f32) (x2 : Vec F S1x16x1024 .f32) (x3 : Vec F S1x512x512 .bf16) (x4 : Vec F S1x16x512 .bf16) (x5 : Vec F S1x16x512 .bf16) (x6 : Vec F S1x4x512x128 .f32) (x7 : Vec F S1x4x16x128 .f32) (x8 : Vec F S1x4x16x128 .f32) (x9 : Vec F S1x512x256 .f32) (x10 : Vec F S1024x1024 .bf16) (x11 : Vec F S1x1024 .f32) (x12 : Vec F S1024x5632 .bf16) (x13 : Vec F S3x5632 .f32) (x14 : Vec F S1x5632 .f32) (x15 : Vec F S2816x1024 .bf16) (x16 : Vec F S256x1024 .bf16) (x17 : Vec F S1x1024 .f32) (x18 : Vec F S1024x1024 .bf16) (x19 : Vec F S1x1024 .f32)

/-- The staged inputs, loads as they are made. -/
def xallRd : FVec F S544x1024 .f32 :=
  xall (rd arg3 harg3 x1 (Rect.unit (s := S1x16x1024) ![0, 0, 0] S1x16x1024.size inb_S1x16x1024_S1x16x1024_0_0_0))
    (rd arg2 harg2 x0 (Rect.unit (s := S1x512x1024) ![0, 0, 0] S1x512x1024.size inb_S1x512x1024_S1x512x1024_0_0_0))
    (rd arg4 harg4 x2 (Rect.unit (s := S1x16x1024) ![0, 0, 0] S1x16x1024.size inb_S1x16x1024_S1x16x1024_0_0_0))
def mixedRd : FVec F S544x1024 .bf16 :=
  mixed (k0_pay3 (rd arg6 harg6 x4 (Rect.unit (s := S1x16x512) ![0, 0, 0] S1x16x512.size inb_S1x16x512_S1x16x512_0_0_0))
      (rd arg5 harg5 x3 (Rect.unit (s := S1x512x512) ![0, 0, 0] S1x512x512.size inb_S1x512x512_S1x512x512_0_0_0))
      (rd arg7 harg7 x5 (Rect.unit (s := S1x16x512) ![0, 0, 0] S1x16x512.size inb_S1x16x512_S1x16x512_0_0_0)))
    (fun s hs => slab (rd arg9 harg9 x7 (Rect.unit (s := S1x4x16x128) ![0, s, 0, 0] S1x1x16x128.size (inbF16 s hs)))
      (rd arg8 harg8 x6 (Rect.unit (s := S1x4x512x128) ![0, s, 0, 0] S1x1x512x128.size (inbF512 s hs)))
      (rd arg10 harg10 x8 (Rect.unit (s := S1x4x16x128) ![0, s, 0, 0] S1x1x16x128.size (inbF16 s hs))))
def outRd : Vec F S1024x1024 .bf16 := rd arg12 harg12 x10 (Rect.unit (s := S1024x1024) ![0, 0] S1024x1024.size inb_S1024x1024_S1024x1024_0_0)
def hidRd : FVec F S528x1024 .bf16 :=
  hid (BitVec.ofNat 32 i.val) (xallRd arg2 harg2 arg3 harg3 arg4 harg4 x0 x1 x2) (mixedRd arg5 harg5 arg6 harg6 arg7 harg7 arg8 harg8 arg9 harg9 arg10 harg10 x3 x4 x5 x6 x7 x8) (outRd arg12 harg12 x10)
    (rd arg13 harg13 x11 (Rect.unit (s := S1x1024) ![0, 0] S1x1024.size inb_S1x1024_S1x1024_0_0))
def embRd : FVec F S512x1024 .f32 :=
  k0_pay8 (rd arg11 harg11 x9 (Rect.unit (s := S1x512x256) ![0, 0, 0] S1x512x256.size inb_S1x512x256_S1x512x256_0_0_0))
    (rd arg18 harg18 x16 (Rect.unit (s := S256x1024) ![0, 0] S256x1024.size inb_S256x1024_S256x1024_0_0))
    (rd arg19 harg19 x17 (Rect.unit (s := S1x1024) ![0, 0] S1x1024.size inb_S1x1024_S1x1024_0_0))
def actRd (n : ℕ) (hn : n < 11) : FVec F S512x256 .bf16 :=
  actAt arg23 (hidRd i arg2 harg2 arg3 harg3 arg4 harg4 arg5 harg5 arg6 harg6 arg7 harg7 arg8 harg8 arg9 harg9 arg10 harg10 arg12 harg12 arg13 harg13 x0 x1 x2 x3 x4 x5 x6 x7 x8 x10 x11)
    (fun o ho => rd arg14 harg14 x12 (Rect.unit (s := S1024x5632) ![0, o] S1024x256.size (inbUp o ho)))
    (fun o ho => rd arg15 harg15 x13 (Rect.unit (s := S3x5632) ![0, o] S3x128.size (inbTap o ho)))
    (fun o ho => rd arg16 harg16 x14 (Rect.unit (s := S1x5632) ![0, o] S1x128.size (inbBias o ho))) n hn
def accRd (n : ℕ) (hn : n ≤ 11) : FVec F S512x1024 .f32 :=
  acc (fun n hn => actRd i arg2 harg2 arg3 harg3 arg4 harg4 arg5 harg5 arg6 harg6 arg7 harg7 arg8 harg8 arg9 harg9 arg10 harg10 arg12 harg12 arg13 harg13 arg14 harg14 arg15 harg15 arg16 harg16 arg23 x0 x1 x2 x3 x4 x5 x6 x7 x8 x10 x11 x12 x13 x14 n hn)
    (fun o ho => rd arg17 harg17 x15 (Rect.unit (s := S2816x1024) ![o, 0] S256x1024.size (inbDown o ho))) n hn

/-- THE TILE over the staged input blocks. -/
def tile : FVec F S1x512x1024 .f32 :=
  gated (embRd arg11 harg11 arg18 harg18 arg19 harg19 x9 x16 x17)
    (addf (k0_pay11 (xmix (xallRd arg2 harg2 arg3 harg3 arg4 harg4 x0 x1 x2) (mixedRd arg5 harg5 arg6 harg6 arg7 harg7 arg8 harg8 arg9 harg9 arg10 harg10 x3 x4 x5 x6 x7 x8) (outRd arg12 harg12 x10)))
      (ordered arg24 (accRd i arg2 harg2 arg3 harg3 arg4 harg4 arg5 harg5 arg6 harg6 arg7 harg7 arg8 harg8 arg9 harg9 arg10 harg10 arg12 harg12 arg13 harg13 arg14 harg14 arg15 harg15 arg16 harg16 arg17 harg17 arg23 x0 x1 x2 x3 x4 x5 x6 x7 x8 x10 x11 x12 x13 x14 x15 11 (by omega))))
    (rd arg20 harg20 x18 (Rect.unit (s := S1024x1024) ![0, 0] S1024x1024.size inb_S1024x1024_S1024x1024_0_0))
    (rd arg21 harg21 x19 (Rect.unit (s := S1x1024) ![0, 0] S1x1024.size inb_S1x1024_S1x1024_0_0))

end

end Cert.Ffn

end
-- ==== Proof.Ffn.Pieces.lean ====
/- The feed-forward kernel's body stores one piece, the tile. -/
module

public import proofs.«01_k».proof.Proof.Ffn.Block

@[expose] public section

set_option maxRecDepth 16384

noncomputable section

namespace Cert.Ffn

open Cert.Kernel2Ideal Cert.Kernel2Ideal.Gen Idealize.ShloMosaic Idealize.ShloMosaic.TcCoe Idealize.SL.Sem

variable {F : FTy → Type} [FloatOps F]

section
variable (c : Dev nD) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x4x512x128 .f32) (harg8 : arg8.IsWhole) (arg9 : Memref sig .tc .vmem S1x4x16x128 .f32) (harg9 : arg9.IsWhole) (arg10 : Memref sig .tc .vmem S1x4x16x128 .f32) (harg10 : arg10.IsWhole) (arg11 : Memref sig .tc .vmem S1x512x256 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1024x5632 .bf16) (harg14 : arg14.IsWhole) (arg15 : Memref sig .tc .vmem S3x5632 .f32) (harg15 : arg15.IsWhole) (arg16 : Memref sig .tc .vmem S1x5632 .f32) (harg16 : arg16.IsWhole) (arg17 : Memref sig .tc .vmem S2816x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1x512x1024 .f32) (harg22 : arg22.IsWhole) (arg23 : Memref sig .tc .vmem S4x2x2x528x128 .f32) (harg23 : arg23.IsWhole) (arg24 : Memref sig .tc .vmem S8x512x128 .f32) (harg24 : arg24.IsWhole)
    (x0 : Vec F S1x512x1024 .f32) (x1 : Vec F S1x16x1024 .f32) (x2 : Vec F S1x16x1024 .f32) (x3 : Vec F S1x512x512 .bf16) (x4 : Vec F S1x16x512 .bf16) (x5 : Vec F S1x16x512 .bf16) (x6 : Vec F S1x4x512x128 .f32) (x7 : Vec F S1x4x16x128 .f32) (x8 : Vec F S1x4x16x128 .f32) (x9 : Vec F S1x512x256 .f32) (x10 : Vec F S1024x1024 .bf16) (x11 : Vec F S1x1024 .f32) (x12 : Vec F S1024x5632 .bf16) (x13 : Vec F S3x5632 .f32) (x14 : Vec F S1x5632 .f32) (x15 : Vec F S2816x1024 .bf16) (x16 : Vec F S256x1024 .bf16) (x17 : Vec F S1x1024 .f32) (x18 : Vec F S1024x1024 .bf16) (x19 : Vec F S1x1024 .f32)

set_option maxHeartbeats 4000000 in
/-- The body's one store. -/
theorem pieces :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19).1
      = [⟨Rect.unit ![0, 0, 0] ![1, 512, 1024] inb_S1x512x1024_S1x512x1024_0_0_0, tile (i 1) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 arg24 x0 x1 x2 x3 x4 x5 x6 x7 x8 x9 x10 x11 x12 x13 x14 x15 x16 x17 x18 x19⟩] := rfl

end

end Cert.Ffn

end
-- ==== Proof.Ffn.Math.lean ====
/- The feed-forward call's rows as plain mathematics on the extended reals. -/
module

public import Idealize.ShloMosaic.Lib.Pointwise

@[expose] public section

noncomputable section

namespace Cert.Ffn

open Idealize.ShloMosaic

/-- Root mean square normalisation, as the reference divides. -/
def rmsD (v gain : Fin 1024 → EReal) (d : Fin 1024) : EReal :=
  v d * Ideal.rsqrt (Ideal.div (∑ x, v x * v x) (Ideal.ofBits .f32 0x44800000#32) + Ideal.ofBits .f32 0x358637BD#32) * gain d

/-- The two mixers' outputs side by side. -/
def mix (a : Fin 512 → EReal) (f : Fin 4 → Fin 128 → EReal) (k : Fin 1024) : EReal :=
  if h : k.val < 512 then a ⟨k.val, h⟩ else f ⟨(k.val - 512) / 128, by omega⟩ ⟨(k.val - 512) % 128, by omega⟩

/-- A row times a matrix. -/
def lin {n k : ℕ} (v : Fin k → EReal) (w : Fin k → Fin n → EReal) (d : Fin n) : EReal := ∑ x, v x * w x d

/-- The row after the mixers. -/
def mid (x mx : Fin 1024 → EReal) (w : Fin 1024 → Fin 1024 → EReal) (d : Fin 1024) : EReal := x d + lin mx w d

/-- Three taps and a bias. -/
def tap3 (cw : Fin 3 → Fin 5632 → EReal) (cb : Fin 5632 → EReal) (a b d : EReal) (q : Fin 5632) : EReal :=
  a * cw 0 q + b * cw 1 q + d * cw 2 q + cb q

/-- The gated product of a row. -/
def glu (hc : Fin 5632 → EReal) (q : Fin 2816) : EReal :=
  hc ⟨q.val, by omega⟩ * Ideal.logistic (hc ⟨q.val, by omega⟩) * hc ⟨2816 + q.val, by omega⟩

/-- The row after the feed-forward takes the embedding's row through a gate. -/
def gate (e x2 : Fin 1024 → EReal) (wg : Fin 1024 → Fin 1024 → EReal) (bg : Fin 1024 → EReal) (d : Fin 1024) : EReal :=
  x2 d + Ideal.logistic (lin x2 wg d + bg d) * e d

/-- A whole row, from the up-projected rows before it, its own and after it. -/
def rowOut (a b d : Fin 5632 → EReal) (cw : Fin 3 → Fin 5632 → EReal) (cb : Fin 5632 → EReal) (wd : Fin 2816 → Fin 1024 → EReal)
    (x1 e : Fin 1024 → EReal) (wg : Fin 1024 → Fin 1024 → EReal) (bg : Fin 1024 → EReal) : Fin 1024 → EReal :=
  gate e (fun d' => x1 d' + lin (glu fun q => tap3 cw cb (a q) (b q) (d q) q) wd d') wg bg

theorem bits_zero : Ideal.ofBits .f32 0x00000000#32 = 0 := by
  simp [Ideal.ofBits, Ideal.ieee, -EReal.coe_mul]
theorem bits_one : Ideal.ofBits .f32 0x3F800000#32 = 1 := by
  simp [Ideal.ofBits, Ideal.ieee, -EReal.coe_mul]; try norm_num
theorem bits_1024 : Ideal.ofBits .f32 0x44800000#32 = ((1024 : ℝ) : EReal) := by
  simp [Ideal.ofBits, Ideal.ieee, -EReal.coe_mul]; norm_num
theorem bits_1024th : Ideal.ofBits .f32 0x3A800000#32 = (((1024 : ℝ)⁻¹ : ℝ) : EReal) := by
  simp [Ideal.ofBits, Ideal.ieee, -EReal.coe_mul]; norm_num

/-- A product with a thousand and twenty-fourth is a quotient. -/
theorem mul_1024th (s : EReal) : s * Ideal.ofBits .f32 0x3A800000#32 = Ideal.div s (Ideal.ofBits .f32 0x44800000#32) := by
  rw [bits_1024, bits_1024th]
  unfold Ideal.div
  rw [if_neg (by exact_mod_cast (by norm_num : (1024 : ℝ) ≠ 0)), EReal.coe_inv]

end Cert.Ffn

end
-- ==== Proof.Ffn.ScratchAt.lean ====
/- The two scratch buffers of the feed-forward kernel, read at an element. -/
module

public import proofs.«01_k».proof.Proof.Ffn.Block
public import proofs.«01_k».proof.Proof.Ffn.Math
public import Idealize.ShloMosaic.Lib.Writes

@[expose] public section

set_option maxRecDepth 16384

noncomputable section

namespace Cert.Ffn

open Cert.Kernel2Ideal Cert.Kernel2Ideal.Gen Idealize.ShloMosaic Idealize.ShloMosaic.TcCoe Idealize.SL.Sem

variable {sig : RefSig}

theorem hu_apply (h : FVec Ideal S528x1024 .bf16) (w : Vec Ideal S1024x256 .bf16) (c : ℕ) (hc : c < 2) (q : Fin 528) (l : Fin 128) :
    hu (F := Ideal) h w c hc (ix5 0 0 0 q l) = ∑ k : Fin 1024, h (ix2 q k) * w (ix2 k ⟨128 * c + l.val, by omega⟩) := by
  pointwise [hu]

/-- One store of the first scratch buffer, or the ones before it. -/
theorem canon_hu (s p c : ℕ) (hs : s < 4) (hp : p < 2) (hc : c < 2) (w : S1x1x1x528x128.Idx → Elt Ideal .f32)
    (L : List (View.Piece (Elt Ideal) S4x2x2x528x128 .f32)) (s' : Fin 4) (p' c' : Fin 2) (q : Fin 528) (l : Fin 128) :
    View.canon (Val := Elt Ideal) (⟨Rect.unit (s := S4x2x2x528x128) ![s, p, c, 0, 0] S1x1x1x528x128.size (inbHu s p c hs hp hc), w⟩ :: L) (ix5 s' p' c' q l)
      = if s'.val = s ∧ p'.val = p ∧ c'.val = c then w (ix5 0 0 0 q l) else View.canon (Val := Elt Ideal) L (ix5 s' p' c' q l) := by
  split_ifs with h
  · have e : (ix5 s' p' c' q l : S4x2x2x528x128.Idx) = (Rect.unit (s := S4x2x2x528x128) ![s, p, c, 0, 0] S1x1x1x528x128.size (inbHu s p c hs hp hc)).emb (ix5 0 0 0 q l) := by
      funext a
      apply Fin.ext
      rw [Rect.emb_apply]
      match a with
      | ⟨0, _⟩ => show s'.val = s + 1 * 0; omega
      | ⟨1, _⟩ => show p'.val = p + 1 * 0; omega
      | ⟨2, _⟩ => show c'.val = c + 1 * 0; omega
      | ⟨3, _⟩ => show q.val = 0 + 1 * q.val; omega
      | ⟨4, _⟩ => show l.val = 0 + 1 * l.val; omega
    exact (congrArg _ e).trans (View.canon_cons_emb (Val := Elt Ideal) (Rect.unit (s := S4x2x2x528x128) ![s, p, c, 0, 0] S1x1x1x528x128.size (inbHu s p c hs hp hc)) w L (ix5 0 0 0 q l))
  · refine View.canon_cons_of_not_mem (Val := Elt Ideal) _ L fun hm => h ?_
    have hm := (Rect.mem_set_unit (inb := inbHu s p c hs hp hc)).1 hm
    have h0 := hm 0
    have h1 := hm 1
    have h2 := hm 2
    change s ≤ s'.val ∧ s'.val < s + 1 at h0
    change p ≤ p'.val ∧ p'.val < p + 1 at h1
    change c ≤ c'.val ∧ c'.val < c + 1 at h2
    omega

theorem pcs_canon (h : FVec Ideal S528x1024 .bf16) (W : (o : ℕ) → o + 256 ≤ 5632 → Vec Ideal S1024x256 .bf16) (n : ℕ) (hn : n < 11) (p c : ℕ) (hp : p < 2) (hc : c < 2)
    (q : Fin 528) (l : Fin 128) : ∀ (m : ℕ) (hm : m ≤ 11), n < m → m ≤ n + 4 →
    View.canon (Val := Elt Ideal) (pcs h W m hm) (ix5 ⟨n % 4, Nat.mod_lt _ (by omega)⟩ ⟨p, hp⟩ ⟨c, hc⟩ q l)
      = hu h (W (2816 * p + 256 * n) (by omega)) c hc (ix5 0 0 0 q l)
  | 0, _, h0, _ => absurd h0 (by omega)
  | m + 1, hm, h1, h2 => by
    unfold pcs
    rw [canon_hu (m % 4) 1 1 (Nat.mod_lt _ (by omega)) (by omega) (by omega), canon_hu (m % 4) 1 0 (Nat.mod_lt _ (by omega)) (by omega) (by omega),
      canon_hu (m % 4) 0 1 (Nat.mod_lt _ (by omega)) (by omega) (by omega), canon_hu (m % 4) 0 0 (Nat.mod_lt _ (by omega)) (by omega) (by omega)]
    by_cases e : n = m
    · subst e
      have hp' : p = 0 ∨ p = 1 := by omega
      have hc' : c = 0 ∨ c = 1 := by omega
      rcases hp' with rfl | rfl <;> rcases hc' with rfl | rfl <;> simp <;> congr 3 <;> omega
    · have hs : ¬ (n % 4 = m % 4) := by omega
      simp only [hs, false_and, if_false]
      exact pcs_canon h W n hn p c hp hc q l m (by omega) (by omega) (by omega)

theorem cast_rows (f : FVec Ideal S1x1x1x256x128 .f32) (j : Fin 256) (l : Fin 128) :
    shapeCast S256x128 f shapeCasts_S1x1x1x256x128_S256x128 (ix2 j l) = f (ix5 0 0 0 j l) := by
  pointwise

theorem cast_lane (f : FVec Ideal S1x512x128 .f32) (j : Fin 512) (l : Fin 128) :
    shapeCast S512x128 f shapeCasts_S1x512x128_S512x128 (ix2 j l) = f (ix3 0 j l) := by
  pointwise

theorem rowsOf_apply (s : Memref sig .tc .vmem S4x2x2x528x128 .f32) (h : FVec Ideal S528x1024 .bf16) (W : (o : ℕ) → o + 256 ≤ 5632 → Vec Ideal S1024x256 .bf16)
    (n : ℕ) (hn : n < 11) (p c k : ℕ) (hp : p < 2) (hc : c < 2) (hk : k < 4) (j : Fin 256) (l : Fin 128) :
    rowsOf s (pcs h W (min (n + 4) 11) (by omega)) n p c k hp hc hk (ix2 j l)
      = ∑ x : Fin 1024, h (ix2 ⟨7 + k + 2 * j.val, by omega⟩ x) * W (2816 * p + 256 * n) (by omega) (ix2 x ⟨128 * c + l.val, by omega⟩) := by
  refine Eq.trans ?_ (hu_apply h (W (2816 * p + 256 * n) (by omega)) c hc ⟨7 + k + 2 * j.val, by omega⟩ l)
  rw [← pcs_canon h W n hn p c hp hc _ l (min (n + 4) 11) (by omega) (by omega) (by omega)]
  unfold rowsOf
  rw [View.readCov_eq_canon']
  refine (cast_rows _ j l).trans (congrArg _ ?_)
  funext a
  apply Fin.ext
  rw [LoadRect.idx_apply]
  match a with
  | ⟨0, _⟩ => rfl
  | ⟨1, _⟩ => rfl
  | ⟨2, _⟩ => rfl
  | ⟨3, _⟩ => show 7 + k + 2 * j.val = 7 + k + 2 * j.val; rfl
  | ⟨4, _⟩ => show 0 + 1 * l.val = l.val; omega

/-- One store of the second scratch buffer, or the ones before it. -/
theorem canon_nat (c p : ℕ) (hc : c < 8) (hp : p < 2) (w : S1x256x128.Idx → Elt Ideal .f32)
    (L : List (View.Piece (Elt Ideal) S8x512x128 .f32)) (c' : Fin 8) (r : Fin 512) (l : Fin 128) :
    View.canon (Val := Elt Ideal) (⟨(⟨⟨![c, p, 0], S1x256x128.size, ![1, 2, 1], inbNat c p hc hp⟩, spos_1_2_1⟩ : Rect S8x512x128), w⟩ :: L) (ix3 c' r l)
      = if c'.val = c ∧ r.val % 2 = p then w (ix3 0 ⟨r.val / 2, by omega⟩ l) else View.canon (Val := Elt Ideal) L (ix3 c' r l) := by
  split_ifs with h
  · have e : (ix3 c' r l : S8x512x128.Idx) = (⟨⟨![c, p, 0], S1x256x128.size, ![1, 2, 1], inbNat c p hc hp⟩, spos_1_2_1⟩ : Rect S8x512x128).emb (ix3 0 ⟨r.val / 2, by omega⟩ l) := by
      funext a
      apply Fin.ext
      rw [Rect.emb_apply]
      match a with
      | ⟨0, _⟩ => show c'.val = c + 1 * 0; omega
      | ⟨1, _⟩ => show r.val = p + 2 * (r.val / 2); omega
      | ⟨2, _⟩ => show l.val = 0 + 1 * l.val; omega
    exact (congrArg _ e).trans (View.canon_cons_emb (Val := Elt Ideal) (⟨⟨![c, p, 0], S1x256x128.size, ![1, 2, 1], inbNat c p hc hp⟩, spos_1_2_1⟩ : Rect S8x512x128) w L (ix3 0 ⟨r.val / 2, by omega⟩ l))
  · refine View.canon_cons_of_not_mem (Val := Elt Ideal) _ L fun hm => h ?_
    have hm := (LoadRect.mem_set _).1 hm
    obtain ⟨x, hx, h0⟩ := hm 0
    obtain ⟨y, hy, h1⟩ := hm 1
    change x < 1 at hx
    change c'.val = c + 1 * x at h0
    change r.val = p + 2 * y at h1
    omega

theorem natp_canon (a : FVec Ideal S512x1024 .f32) (c : ℕ) (hc : c < 8) (r : Fin 512) (l : Fin 128) : ∀ (m : ℕ) (hm : m ≤ 8), c < m →
    View.canon (Val := Elt Ideal) (natp a m hm) (ix3 ⟨c, hc⟩ r l) = a (ix2 ⟨256 * (r.val % 2) + r.val / 2, by omega⟩ ⟨128 * c + l.val, by omega⟩)
  | 0, _, h0 => absurd h0 (by omega)
  | m + 1, hm, h1 => by
    unfold natp
    rw [canon_nat m 1 (by omega) (by omega), canon_nat m 0 (by omega) (by omega)]
    by_cases e : c = m
    · subst e
      have hr : r.val % 2 = 0 ∨ r.val % 2 = 1 := by omega
      rcases hr with hr | hr
      · simp only [hr, true_and]
        rw [if_neg (by omega), if_pos trivial]
        pointwise
      · simp only [hr, true_and]
        rw [if_pos trivial]
        pointwise
    · simp only [e, false_and, if_false]
      exact natp_canon a c hc r l m (by omega) (by omega)

theorem lane_apply (s : Memref sig .tc .vmem S8x512x128 .f32) (a : FVec Ideal S512x1024 .f32) (c : ℕ) (hc : c < 8) (r : Fin 512) (l : Fin 128) :
    lane s a c hc (ix2 r l) = a (ix2 ⟨256 * (r.val % 2) + r.val / 2, by omega⟩ ⟨128 * c + l.val, by omega⟩) := by
  rw [← natp_canon a c hc r l 8 (by omega) (by omega)]
  unfold lane
  rw [View.readCov_eq_canon']
  refine (cast_lane _ r l).trans (congrArg _ ?_)
  funext a
  apply Fin.ext
  rw [LoadRect.idx_apply]
  match a with
  | ⟨0, _⟩ => rfl
  | ⟨1, _⟩ => show 0 + 1 * r.val = r.val; omega
  | ⟨2, _⟩ => show 0 + 1 * l.val = l.val; omega

theorem ordered_apply (s : Memref sig .tc .vmem S8x512x128 .f32) (a : FVec Ideal S512x1024 .f32) (r : Fin 512) (d : Fin 1024) :
    ordered s a (ix2 r d) = a (ix2 ⟨256 * (r.val % 2) + r.val / 2, by omega⟩ d) := by
  have key : ∀ (c : ℕ) (hc : c < 8) (l : Fin 128), d.val = 128 * c + l.val → lane s a c hc (ix2 r l) = a (ix2 ⟨256 * (r.val % 2) + r.val / 2, by omega⟩ d) := by
    intro c hc l e
    rw [lane_apply]
    congr 2
    exact Fin.ext e.symm
  unfold ordered
  generalize lane s a = L at key
  pointwise
  split_ifs
  all_goals first
    | exact absurd rfl ‹¬ _ = _›
    | exact key 0 (by omega) _ (by show d.val = 128 * 0 + d.val; omega)
    | exact key 1 (by omega) _ (by show d.val = 128 * 1 + (d.val - 128); omega)
    | exact key 2 (by omega) _ (by show d.val = 128 * 2 + (d.val - 128 - 128); omega)
    | exact key 3 (by omega) _ (by show d.val = 128 * 3 + (d.val - 128 - 128 - 128); omega)
    | exact key 4 (by omega) _ (by show d.val = 128 * 4 + (d.val - 128 - 128 - 128 - 128); omega)
    | exact key 5 (by omega) _ (by show d.val = 128 * 5 + (d.val - 128 - 128 - 128 - 128 - 128); omega)
    | exact key 6 (by omega) _ (by show d.val = 128 * 6 + (d.val - 128 - 128 - 128 - 128 - 128 - 128); omega)
    | exact key 7 (by omega) _ (by show d.val = 128 * 7 + (d.val - 128 - 128 - 128 - 128 - 128 - 128 - 128); omega)

end Cert.Ffn

end
-- ==== Proof.Ffn.TileAt.lean ====
/- The feed-forward kernel's stages, read at an element. -/
module

public import proofs.«01_k».proof.Proof.Ffn.Block
public import proofs.«01_k».proof.Proof.Ffn.Math

@[expose] public section

set_option maxRecDepth 16384

noncomputable section

namespace Cert.Ffn

open Cert.Kernel2Ideal Cert.Kernel2Ideal.Gen Idealize.ShloMosaic Idealize.ShloMosaic.TcCoe Idealize.SL.Sem

theorem taps_apply (cw : Vec Ideal S3x128 .f32) (cb : Vec Ideal S1x128 .f32) (a b d : FVec Ideal S256x128 .f32) (j : Fin 256) (l : Fin 128) :
    taps (F := Ideal) cw cb a b d (ix2 j l) = a (ix2 j l) * cw (ix2 0 l) + b (ix2 j l) * cw (ix2 1 l) + d (ix2 j l) * cw (ix2 2 l) + cb (ix2 0 l) := by
  pointwise [taps]

/-- The convolution at row `j` of the even rows or of the odd ones. -/
theorem conv1_apply (cw : Vec Ideal S3x128 .f32) (cb : Vec Ideal S1x128 .f32) (r : (k : ℕ) → k < 4 → FVec Ideal S256x128 .f32)
    (p : Fin 2) (j : Fin 256) (l : Fin 128) :
    conv1 (F := Ideal) cw cb r (ix2 ⟨256 * p.val + j.val, by omega⟩ l)
      = r p.val (by omega) (ix2 j l) * cw (ix2 0 l) + r (p.val + 1) (by omega) (ix2 j l) * cw (ix2 1 l) + r (p.val + 2) (by omega) (ix2 j l) * cw (ix2 2 l) + cb (ix2 0 l) := by
  have e0 := taps_apply cw cb (r 0 (by omega)) (r 1 (by omega)) (r 2 (by omega)) j l
  have e1 := taps_apply cw cb (r 1 (by omega)) (r 2 (by omega)) (r 3 (by omega)) j l
  unfold conv1
  generalize taps cw cb (r 0 (by omega)) (r 1 (by omega)) (r 2 (by omega)) = T0 at e0 ⊢
  generalize taps cw cb (r 1 (by omega)) (r 2 (by omega)) (r 3 (by omega)) = T1 at e1 ⊢
  match p with
  | ⟨0, _⟩ =>
    refine Eq.trans ?_ e0
    pointwise
  | ⟨1, _⟩ =>
    refine Eq.trans ?_ e1
    pointwise

theorem conv_apply (CW : (o : ℕ) → o + 128 ≤ 5632 → Vec Ideal S3x128 .f32) (CB : (o : ℕ) → o + 128 ≤ 5632 → Vec Ideal S1x128 .f32) (o : ℕ) (ho : o + 256 ≤ 5632)
    (r : (c k : ℕ) → c < 2 → k < 4 → FVec Ideal S256x128 .f32) (c : Fin 2) (t : Fin 512) (l : Fin 128) :
    conv (F := Ideal) CW CB o ho r (ix2 t ⟨128 * c.val + l.val, by omega⟩)
      = conv1 (F := Ideal) (CW (o + 128 * c.val) (by omega)) (CB (o + 128 * c.val) (by omega)) (fun k hk => r c.val k (by omega) hk) (ix2 t l) := by
  unfold conv
  match c with
  | ⟨0, _⟩ =>
    generalize conv1 (CW o (by omega)) (CB o (by omega)) (fun k hk => r 0 k (by omega) hk) = T0
    generalize conv1 (CW (o + 128) (by omega)) (CB (o + 128) (by omega)) (fun k hk => r 1 k (by omega) hk) = T1
    pointwise
  | ⟨1, _⟩ =>
    generalize conv1 (CW o (by omega)) (CB o (by omega)) (fun k hk => r 0 k (by omega) hk) = T0
    generalize conv1 (CW (o + 128) (by omega)) (CB (o + 128) (by omega)) (fun k hk => r 1 k (by omega) hk) = T1
    pointwise

theorem act_apply (g u : FVec Ideal S512x256 .f32) (t : Fin 512) (q : Fin 256) :
    act (F := Ideal) g u (ix2 t q) = g (ix2 t q) * Ideal.logistic (g (ix2 t q)) * u (ix2 t q) := by
  pointwise [act]

/-- The down-projection, added up. -/
theorem acc_apply (A : (n : ℕ) → n < 11 → FVec Ideal S512x256 .bf16) (WD : (o : ℕ) → o + 256 ≤ 2816 → Vec Ideal S256x1024 .bf16) (t : Fin 512) (d : Fin 1024)
    (G : ℕ → EReal) (hG : ∀ (n : ℕ) (hn : n < 11) (q : Fin 256), A n hn (ix2 t q) * WD (256 * n) (by omega) (ix2 q d) = G (256 * n + q.val)) :
    ∀ (n : ℕ) (hn : n ≤ 11), acc (F := Ideal) A WD n hn (ix2 t d) = ∑ x ∈ Finset.range (256 * n), G x
  | 0, _ => by
    unfold acc
    pointwise
    simp [bits_zero]
  | n + 1, hn => by
    have ih := acc_apply A WD t d G hG n (by omega)
    unfold acc
    generalize acc A WD n (by omega) = T at ih ⊢
    have hA := hG n (by omega)
    generalize A n (by omega) = B at hA ⊢
    generalize WD (256 * n) (by omega) = V at hA ⊢
    rw [show 256 * (n + 1) = 256 * n + 256 by omega, Finset.sum_range_add, Finset.sum_range (n := 256)]
    simp only [← hA]
    rw [← ih]
    pointwise

theorem xmix_apply (x : FVec Ideal S544x1024 .f32) (mx : FVec Ideal S544x1024 .bf16) (w : Vec Ideal S1024x1024 .bf16) (r : Fin 544) (d : Fin 1024) :
    xmix (F := Ideal) x mx w (ix2 r d) = mid (fun d => x (ix2 r d)) (fun k => mx (ix2 r k)) (fun k d => w (ix2 k d)) d := by
  pointwise [xmix, k0_pay7]
  rfl

theorem norm_apply (x : FVec Ideal S544x1024 .f32) (mx : FVec Ideal S544x1024 .bf16) (w : Vec Ideal S1024x1024 .bf16) (gain : Vec Ideal S1x1024 .f32)
    (r : Fin 544) (d : Fin 1024) :
    k0_pay9 (F := Ideal) x mx w (constant S544x1024 .f32 0x00000000#32) gain (ix2 r d)
      = rmsD (fun d => xmix (F := Ideal) x mx w (ix2 r d)) (fun x => gain (ix2 0 x)) d := by
  unfold k0_pay9
  rw [show k0_pay7 x mx w (constant S544x1024 .f32 0x00000000#32) = xmix (F := Ideal) x mx w from rfl]
  generalize xmix (F := Ideal) x mx w = y
  unfold rmsD
  rw [← mul_1024th]
  pointwise
  try rfl

theorem emb_apply (p : Vec Ideal S1x512x256 .f32) (w : Vec Ideal S256x1024 .bf16) (gain : Vec Ideal S1x1024 .f32) (r : Fin 512) (d : Fin 1024) :
    k0_pay8 (F := Ideal) p w gain (ix2 r d)
      = rmsD (lin (fun k => p (ix3 0 r k)) (fun k d => w (ix2 k d))) (fun x => gain (ix2 0 x)) d := by
  unfold rmsD
  rw [← mul_1024th]
  pointwise [k0_pay8]
  try rfl

theorem gated_apply (e x2 : FVec Ideal S512x1024 .f32) (wg : Vec Ideal S1024x1024 .bf16) (bg : Vec Ideal S1x1024 .f32) (r : Fin 512) (d : Fin 1024) :
    gated (F := Ideal) e x2 wg bg (ix3 0 r d)
      = gate (fun d => e (ix2 r d)) (fun d => x2 (ix2 r d)) (fun k d => wg (ix2 k d)) (fun d => bg (ix2 0 d)) d := by
  pointwise [gated]
  try rfl

theorem centre_apply (x : FVec Ideal S544x1024 .f32) (r : Fin 512) (d : Fin 1024) :
    k0_pay11 (F := Ideal) x (ix2 r d) = x (ix2 ⟨16 + r.val, by omega⟩ d) := by
  pointwise [k0_pay11]

/-- Rows of three buffers laid one after another: 16, 512 and 16 of them. -/
def ext (n : ℕ) (a : Fin 16 → Fin n → EReal) (b : Fin 512 → Fin n → EReal) (d : Fin 16 → Fin n → EReal) (r : ℕ) (hr : r < 544) (l : Fin n) : EReal :=
  if h : r < 16 then a ⟨r, h⟩ l else if h : r - 16 < 512 then b ⟨r - 16, h⟩ l else d ⟨r - 16 - 512, by omega⟩ l

theorem xall_apply (a : Vec Ideal S1x16x1024 .f32) (b : Vec Ideal S1x512x1024 .f32) (d : Vec Ideal S1x16x1024 .f32) (r : Fin 544) (l : Fin 1024) :
    xall (F := Ideal) a b d (ix2 r l) = ext 1024 (fun r l => a (ix3 0 r l)) (fun r l => b (ix3 0 r l)) (fun r l => d (ix3 0 r l)) r r.isLt l := by
  pointwise [xall, k0_pay2]
  rfl

theorem aall_apply (a : Vec Ideal S1x16x512 .bf16) (b : Vec Ideal S1x512x512 .bf16) (d : Vec Ideal S1x16x512 .bf16) (r : Fin 544) (l : Fin 512) :
    k0_pay3 (F := Ideal) a b d (ix2 r l) = ext 512 (fun r l => a (ix3 0 r l)) (fun r l => b (ix3 0 r l)) (fun r l => d (ix3 0 r l)) r r.isLt l := by
  pointwise [k0_pay3]
  rfl

theorem slab_apply (a : Vec Ideal S1x1x16x128 .f32) (b : Vec Ideal S1x1x512x128 .f32) (d : Vec Ideal S1x1x16x128 .f32) (r : Fin 544) (l : Fin 128) :
    slab (F := Ideal) a b d (ix2 r l) = ext 128 (fun r l => a (ix4 0 0 r l)) (fun r l => b (ix4 0 0 r l)) (fun r l => d (ix4 0 0 r l)) r r.isLt l := by
  pointwise [slab]
  rfl

theorem mixed_apply (a : FVec Ideal S544x512 .bf16) (f : (s : ℕ) → s < 4 → FVec Ideal S544x128 .bf16) (r : Fin 544) (k : Fin 1024) :
    mixed (F := Ideal) a f (ix2 r k) = mix (fun k => a (ix2 r k)) (fun s l => f s.val s.isLt (ix2 r l)) k := by
  have key : ∀ (s : ℕ) (hs : s < 4) (l : Fin 128), k.val = 512 + 128 * s + l.val → f s hs (ix2 r l) = mix (fun k => a (ix2 r k)) (fun s l => f s.val s.isLt (ix2 r l)) k := by
    intro s hs l e
    unfold mix
    rw [dif_neg (by omega)]
    have e1 : (k.val - 512) / 128 = s := by omega
    have e2 : (k.val - 512) % 128 = l.val := by omega
    simp only [e1, e2]
  have key0 : ∀ l : Fin 512, k.val = l.val → a (ix2 r l) = mix (fun k => a (ix2 r k)) (fun s l => f s.val s.isLt (ix2 r l)) k := by
    intro l e
    unfold mix
    rw [dif_pos (by omega)]
    simp only [e]
  generalize mix (fun k => a (ix2 r k)) (fun s l => f s.val s.isLt (ix2 r l)) k = M at key key0
  unfold mixed
  have k0 := key 0 (by omega)
  have k1 := key 1 (by omega)
  have k2 := key 2 (by omega)
  have k3 := key 3 (by omega)
  generalize f 0 _ = f0 at k0 ⊢
  generalize f 1 _ = f1 at k1 ⊢
  generalize f 2 _ = f2 at k2 ⊢
  generalize f 3 _ = f3 at k3 ⊢
  pointwise
  split_ifs
  all_goals first
    | exact key0 _ rfl
    | exact absurd rfl ‹¬ _ = _›
    | exact k0 _ (by show k.val = 512 + 128 * 0 + (k.val - 512); omega)
    | exact k1 _ (by show k.val = 512 + 128 * 1 + (k.val - 512 - 128); omega)
    | exact k2 _ (by show k.val = 512 + 128 * 2 + (k.val - 512 - 128 - 128); omega)
    | exact k3 _ (by show k.val = 512 + 128 * 3 + (k.val - 512 - 128 - 128 - 128); omega)

/-- The rows inside the sequence. -/
theorem inside_word : ∀ (i : Fin 32) (r : Fin 544),
    IntOp.andi (IntOp.cmpi .sge (BitVec.ofNat 32 r.val) (Scalar.select (Scalar.cmpi .eq (BitVec.ofNat 32 i.val) 0#32) 16#32 0#32))
      (IntOp.cmpi .slt (BitVec.ofNat 32 r.val) (Scalar.select (Scalar.cmpi .eq (BitVec.ofNat 32 i.val) 31#32) 528#32 544#32))
    = if (i.val = 0 → 16 ≤ r.val) ∧ (i.val = 31 → r.val < 528) then 1#1 else 0#1 := by
  decide +kernel

theorem hid_apply (i : ℕ) (hi : i < 32) (x : FVec Ideal S544x1024 .f32) (mx : FVec Ideal S544x1024 .bf16) (w : Vec Ideal S1024x1024 .bf16) (gain : Vec Ideal S1x1024 .f32)
    (q : Fin 528) (d : Fin 1024) :
    hid (F := Ideal) (BitVec.ofNat 32 i) x mx w gain (ix2 q d)
      = if (i = 0 → 8 ≤ q.val) ∧ (i = 31 → q.val < 520)
        then rmsD (fun d => xmix (F := Ideal) x mx w (ix2 ⟨8 + q.val, by omega⟩ d)) (fun x => gain (ix2 0 x)) d else 0 := by
  unfold hid
  rw [← norm_apply]
  generalize k0_pay9 x mx w (constant S544x1024 .f32 0x00000000#32) gain = y
  have hw := inside_word ⟨i, hi⟩ ⟨8 + q.val, by omega⟩
  pointwise [k0_pay12, k0_pay10]
  have e : ((i = 0 → 8 ≤ q.val) ∧ (i = 31 → q.val < 520)) ↔ ((i = 0 → 16 ≤ 8 + q.val) ∧ (i = 31 → 8 + q.val < 528)) := by omega
  simp only [e]
  refine (congrArg (fun b => Scalar.select b (y (ix2 ⟨8 + q.val, by omega⟩ d)) 0) hw).trans ?_
  by_cases h : (i = 0 → 16 ≤ 8 + q.val) ∧ (i = 31 → 8 + q.val < 528)
  · simp only [if_pos h]
    rfl
  · simp only [if_neg h]
    rfl

end Cert.Ffn

end
-- ==== Proof.Ffn.Row.lean ====
/- The feed-forward kernel's tile, read at an element: a row of the call's mathematics, over the staged blocks. -/
module

public import proofs.«01_k».proof.Proof.Ffn.ScratchAt
public import proofs.«01_k».proof.Proof.Ffn.TileAt

@[expose] public section

set_option maxRecDepth 16384

noncomputable section

namespace Cert.Ffn

open Cert.Kernel2Ideal Cert.Kernel2Ideal.Gen Idealize.ShloMosaic Idealize.ShloMosaic.TcCoe Idealize.SL.Sem

variable {sig : RefSig}

section
variable (i : Fin 32) (arg2 : Memref sig .tc .vmem S1x512x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x4x512x128 .f32) (harg8 : arg8.IsWhole) (arg9 : Memref sig .tc .vmem S1x4x16x128 .f32) (harg9 : arg9.IsWhole) (arg10 : Memref sig .tc .vmem S1x4x16x128 .f32) (harg10 : arg10.IsWhole) (arg11 : Memref sig .tc .vmem S1x512x256 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1024x5632 .bf16) (harg14 : arg14.IsWhole) (arg15 : Memref sig .tc .vmem S3x5632 .f32) (harg15 : arg15.IsWhole) (arg16 : Memref sig .tc .vmem S1x5632 .f32) (harg16 : arg16.IsWhole) (arg17 : Memref sig .tc .vmem S2816x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1x512x1024 .f32) (harg22 : arg22.IsWhole) (arg23 : Memref sig .tc .vmem S4x2x2x528x128 .f32) (harg23 : arg23.IsWhole) (arg24 : Memref sig .tc .vmem S8x512x128 .f32) (harg24 : arg24.IsWhole)
    (x0 : Vec Ideal S1x512x1024 .f32) (x1 : Vec Ideal S1x16x1024 .f32) (x2 : Vec Ideal S1x16x1024 .f32) (x3 : Vec Ideal S1x512x512 .bf16) (x4 : Vec Ideal S1x16x512 .bf16) (x5 : Vec Ideal S1x16x512 .bf16) (x6 : Vec Ideal S1x4x512x128 .f32) (x7 : Vec Ideal S1x4x16x128 .f32) (x8 : Vec Ideal S1x4x16x128 .f32) (x9 : Vec Ideal S1x512x256 .f32) (x10 : Vec Ideal S1024x1024 .bf16) (x11 : Vec Ideal S1x1024 .f32) (x12 : Vec Ideal S1024x5632 .bf16) (x13 : Vec Ideal S3x5632 .f32) (x14 : Vec Ideal S1x5632 .f32) (x15 : Vec Ideal S2816x1024 .bf16) (x16 : Vec Ideal S256x1024 .bf16) (x17 : Vec Ideal S1x1024 .f32) (x18 : Vec Ideal S1024x1024 .bf16) (x19 : Vec Ideal S1x1024 .f32)

/-- A residual row over the staged blocks: row `r` of the tile's, of the sixteen before it and of the sixteen after it. -/
def rowAt (r : ℕ) (hr : r < 544) : Fin 1024 → EReal :=
  mid (fun d => ext 1024 (fun r l => x1 (ix3 0 r l)) (fun r l => x0 (ix3 0 r l)) (fun r l => x2 (ix3 0 r l)) r hr d)
    (mix (fun k => ext 512 (fun r l => x4 (ix3 0 r l)) (fun r l => x3 (ix3 0 r l)) (fun r l => x5 (ix3 0 r l)) r hr k)
      (fun s l => ext 128 (fun r l => x7 (ix4 0 s r l)) (fun r l => x6 (ix4 0 s r l)) (fun r l => x8 (ix4 0 s r l)) r hr l))
    (fun k d => x10 (ix2 k d))
/-- Its normalised row, zero outside the sequence, -/
def hidAt (q : ℕ) (hq : q < 528) : Fin 1024 → EReal := fun d =>
  if (i.val = 0 → 8 ≤ q) ∧ (i.val = 31 → q < 520) then rmsD (rowAt x0 x1 x2 x3 x4 x5 x6 x7 x8 x10 (8 + q) (by omega)) (fun x => x11 (ix2 0 x)) d else 0
/-- projected up. -/
def upAt (q : ℕ) (hq : q < 528) : Fin 5632 → EReal := lin (hidAt i x0 x1 x2 x3 x4 x5 x6 x7 x8 x10 x11 q hq) (fun k q => x12 (ix2 k q))

theorem xmix_eq (r : Fin 544) (d : Fin 1024) :
    xmix (xallRd arg2 harg2 arg3 harg3 arg4 harg4 x0 x1 x2) (mixedRd arg5 harg5 arg6 harg6 arg7 harg7 arg8 harg8 arg9 harg9 arg10 harg10 x3 x4 x5 x6 x7 x8) (outRd arg12 harg12 x10) (ix2 r d) = rowAt x0 x1 x2 x3 x4 x5 x6 x7 x8 x10 r r.isLt d := by
  rw [xmix_apply]
  unfold rowAt
  congr 1
  · funext d
    unfold xallRd
    rw [xall_apply]
    simp only [rd_eq]
    congr 1 <;> (funext r l; pointwise)
  · funext k
    unfold mixedRd
    rw [mixed_apply]
    congr 1
    · funext k
      rw [aall_apply]
      simp only [rd_eq]
      congr 1 <;> (funext r l; pointwise)
    · funext s l
      rw [slab_apply]
      simp only [rd_eq]
      congr 1 <;> (funext r l; pointwise)
  · funext k d
    unfold outRd
    rw [rd_eq]
    pointwise

theorem hid_eq (q : Fin 528) (d : Fin 1024) :
    hidRd i arg2 harg2 arg3 harg3 arg4 harg4 arg5 harg5 arg6 harg6 arg7 harg7 arg8 harg8 arg9 harg9 arg10 harg10 arg12 harg12 arg13 harg13 x0 x1 x2 x3 x4 x5 x6 x7 x8 x10 x11 (ix2 q d) = hidAt i x0 x1 x2 x3 x4 x5 x6 x7 x8 x10 x11 q q.isLt d := by
  unfold hidRd
  rw [hid_apply _ i.isLt]
  unfold hidAt
  split_ifs
  · congr 1
    · funext d
      exact xmix_eq arg2 harg2 arg3 harg3 arg4 harg4 arg5 harg5 arg6 harg6 arg7 harg7 arg8 harg8 arg9 harg9 arg10 harg10 arg12 harg12 x0 x1 x2 x3 x4 x5 x6 x7 x8 x10 ⟨8 + q.val, by omega⟩ d
    · funext x
      rw [rd_eq]
      pointwise
  · rfl

/-- The convolved row of row `r` of the tile. -/
def convAt (r : ℕ) (hr : r < 512) (q : Fin 5632) : EReal :=
  tap3 (fun k q => x13 (ix2 k q)) (fun q => x14 (ix2 0 q)) (upAt i x0 x1 x2 x3 x4 x5 x6 x7 x8 x10 x11 x12 (7 + r) (by omega) q)
    (upAt i x0 x1 x2 x3 x4 x5 x6 x7 x8 x10 x11 x12 (8 + r) (by omega) q) (upAt i x0 x1 x2 x3 x4 x5 x6 x7 x8 x10 x11 x12 (9 + r) (by omega) q) q

theorem rows_eq (n : ℕ) (hn : n < 11) (p c k : ℕ) (hp : p < 2) (hc : c < 2) (hk : k < 4) (j : Fin 256) (l : Fin 128) :
    rowsOf arg23 (pcs (hidRd i arg2 harg2 arg3 harg3 arg4 harg4 arg5 harg5 arg6 harg6 arg7 harg7 arg8 harg8 arg9 harg9 arg10 harg10 arg12 harg12 arg13 harg13 x0 x1 x2 x3 x4 x5 x6 x7 x8 x10 x11) (fun o ho => rd arg14 harg14 x12 (Rect.unit (s := S1024x5632) ![0, o] S1024x256.size (inbUp o ho))) (min (n + 4) 11) (by omega)) n p c k hp hc hk (ix2 j l)
      = upAt i x0 x1 x2 x3 x4 x5 x6 x7 x8 x10 x11 x12 (7 + k + 2 * j.val) (by omega) ⟨2816 * p + 256 * n + 128 * c + l.val, by omega⟩ := by
  rw [rowsOf_apply _ _ _ n hn]
  unfold upAt lin
  refine Finset.sum_congr rfl fun x _ => congrArg₂ (· * ·) ?_ ?_
  · exact hid_eq i arg2 harg2 arg3 harg3 arg4 harg4 arg5 harg5 arg6 harg6 arg7 harg7 arg8 harg8 arg9 harg9 arg10 harg10 arg12 harg12 arg13 harg13 x0 x1 x2 x3 x4 x5 x6 x7 x8 x10 x11 ⟨7 + k + 2 * j.val, by omega⟩ x
  · rw [rd_eq]
    refine congrArg x12 ?_
    funext a
    apply Fin.ext
    match a with
    | ⟨0, _⟩ => show 0 + 1 * x.val = x.val; omega
    | ⟨1, _⟩ => show (2816 * p + 256 * n) + 1 * (128 * c + l.val) = 2816 * p + 256 * n + 128 * c + l.val; omega

theorem conv_eq (n : ℕ) (hn : n < 11) (p : ℕ) (hp : p < 2) (o : ℕ) (ho : o + 256 ≤ 5632) (eo : o = 2816 * p + 256 * n) (h : Fin 2) (j : Fin 256) (c : Fin 2) (l : Fin 128) :
    conv (F := Ideal) (fun o ho => rd arg15 harg15 x13 (Rect.unit (s := S3x5632) ![0, o] S3x128.size (inbTap o ho)))
      (fun o ho => rd arg16 harg16 x14 (Rect.unit (s := S1x5632) ![0, o] S1x128.size (inbBias o ho))) o ho
      (fun c k hc hk => rowsOf arg23 (pcs (hidRd i arg2 harg2 arg3 harg3 arg4 harg4 arg5 harg5 arg6 harg6 arg7 harg7 arg8 harg8 arg9 harg9 arg10 harg10 arg12 harg12 arg13 harg13 x0 x1 x2 x3 x4 x5 x6 x7 x8 x10 x11) (fun o ho => rd arg14 harg14 x12 (Rect.unit (s := S1024x5632) ![0, o] S1024x256.size (inbUp o ho))) (min (n + 4) 11) (by omega)) n p c k hp hc hk)
      (ix2 ⟨256 * h.val + j.val, by omega⟩ ⟨128 * c.val + l.val, by omega⟩)
      = convAt i x0 x1 x2 x3 x4 x5 x6 x7 x8 x10 x11 x12 x13 x14 (2 * j.val + h.val) (by omega) ⟨o + 128 * c.val + l.val, by omega⟩ := by
  subst eo
  have up_congr : ∀ (a b : ℕ) (ha : a < 528) (hb : b < 528) (q : Fin 5632), a = b → upAt i x0 x1 x2 x3 x4 x5 x6 x7 x8 x10 x11 x12 a ha q = upAt i x0 x1 x2 x3 x4 x5 x6 x7 x8 x10 x11 x12 b hb q := by
    intro a b ha hb q e
    subst e
    rfl
  have ew : ∀ k : Fin 3, rd arg15 harg15 x13 (Rect.unit (s := S3x5632) ![0, 2816 * p + 256 * n + 128 * c.val] S3x128.size (inbTap _ (by omega))) (ix2 k l)
      = x13 (ix2 k ⟨2816 * p + 256 * n + 128 * c.val + l.val, by omega⟩) := by
    intro k
    rw [rd_eq]
    refine congrArg x13 ?_
    funext a
    apply Fin.ext
    match a with
    | ⟨0, _⟩ => show 0 + 1 * k.val = k.val; omega
    | ⟨1, _⟩ => show (2816 * p + 256 * n + 128 * c.val) + 1 * l.val = 2816 * p + 256 * n + 128 * c.val + l.val; omega
  have eb : rd arg16 harg16 x14 (Rect.unit (s := S1x5632) ![0, 2816 * p + 256 * n + 128 * c.val] S1x128.size (inbBias _ (by omega))) (ix2 0 l)
      = x14 (ix2 0 ⟨2816 * p + 256 * n + 128 * c.val + l.val, by omega⟩) := by
    rw [rd_eq]
    refine congrArg x14 ?_
    funext a
    apply Fin.ext
    match a with
    | ⟨0, _⟩ => rfl
    | ⟨1, _⟩ => show (2816 * p + 256 * n + 128 * c.val) + 1 * l.val = 2816 * p + 256 * n + 128 * c.val + l.val; omega
  refine (conv_apply _ _ _ ho _ c _ l).trans ((conv1_apply _ _ _ h j l).trans ?_)
  unfold convAt tap3
  refine congrArg₂ (· + ·) (congrArg₂ (· + ·) (congrArg₂ (· + ·) (congrArg₂ (· * ·) ?_ (ew 0)) (congrArg₂ (· * ·) ?_ (ew 1))) (congrArg₂ (· * ·) ?_ (ew 2))) eb
  · exact (rows_eq i arg2 harg2 arg3 harg3 arg4 harg4 arg5 harg5 arg6 harg6 arg7 harg7 arg8 harg8 arg9 harg9 arg10 harg10 arg12 harg12 arg13 harg13 arg14 harg14 arg23 x0 x1 x2 x3 x4 x5 x6 x7 x8 x10 x11 x12 n hn p c.val h.val hp c.isLt (by omega) j l).trans (up_congr _ _ _ _ _ (by omega))
  · exact (rows_eq i arg2 harg2 arg3 harg3 arg4 harg4 arg5 harg5 arg6 harg6 arg7 harg7 arg8 harg8 arg9 harg9 arg10 harg10 arg12 harg12 arg13 harg13 arg14 harg14 arg23 x0 x1 x2 x3 x4 x5 x6 x7 x8 x10 x11 x12 n hn p c.val (h.val + 1) hp c.isLt (by omega) j l).trans (up_congr _ _ _ _ _ (by omega))
  · exact (rows_eq i arg2 harg2 arg3 harg3 arg4 harg4 arg5 harg5 arg6 harg6 arg7 harg7 arg8 harg8 arg9 harg9 arg10 harg10 arg12 harg12 arg13 harg13 arg14 harg14 arg23 x0 x1 x2 x3 x4 x5 x6 x7 x8 x10 x11 x12 n hn p c.val (h.val + 2) hp c.isLt (by omega) j l).trans (up_congr _ _ _ _ _ (by omega))

theorem act_eq (n : ℕ) (hn : n < 11) (h : Fin 2) (j : Fin 256) (q : Fin 256) :
    actRd i arg2 harg2 arg3 harg3 arg4 harg4 arg5 harg5 arg6 harg6 arg7 harg7 arg8 harg8 arg9 harg9 arg10 harg10 arg12 harg12 arg13 harg13 arg14 harg14 arg15 harg15 arg16 harg16 arg23 x0 x1 x2 x3 x4 x5 x6 x7 x8 x10 x11 x12 x13 x14 n hn (ix2 ⟨256 * h.val + j.val, by omega⟩ q)
      = glu (convAt i x0 x1 x2 x3 x4 x5 x6 x7 x8 x10 x11 x12 x13 x14 (2 * j.val + h.val) (by omega)) ⟨256 * n + q.val, by omega⟩ := by
  have eq : q = ⟨128 * (q.val / 128) + q.val % 128, by omega⟩ := Fin.ext (by show q.val = 128 * (q.val / 128) + q.val % 128; omega)
  have k0 := conv_eq i arg2 harg2 arg3 harg3 arg4 harg4 arg5 harg5 arg6 harg6 arg7 harg7 arg8 harg8 arg9 harg9 arg10 harg10 arg12 harg12 arg13 harg13 arg14 harg14 arg15 harg15 arg16 harg16 arg23
    x0 x1 x2 x3 x4 x5 x6 x7 x8 x10 x11 x12 x13 x14 n hn 0 (by omega) (256 * n) (by omega) (by omega) h j ⟨q.val / 128, by omega⟩ ⟨q.val % 128, by omega⟩
  have k1 := conv_eq i arg2 harg2 arg3 harg3 arg4 harg4 arg5 harg5 arg6 harg6 arg7 harg7 arg8 harg8 arg9 harg9 arg10 harg10 arg12 harg12 arg13 harg13 arg14 harg14 arg15 harg15 arg16 harg16 arg23
    x0 x1 x2 x3 x4 x5 x6 x7 x8 x10 x11 x12 x13 x14 n hn 1 (by omega) (2816 + 256 * n) (by omega) (by omega) h j ⟨q.val / 128, by omega⟩ ⟨q.val % 128, by omega⟩
  unfold actRd actAt
  rw [act_apply]
  unfold glu
  have e0 : (⟨256 * n + 128 * (q.val / 128) + q.val % 128, by omega⟩ : Fin 5632) = ⟨256 * n + q.val, by omega⟩ := Fin.ext (by show 256 * n + 128 * (q.val / 128) + q.val % 128 = 256 * n + q.val; omega)
  have e1 : (⟨2816 + 256 * n + 128 * (q.val / 128) + q.val % 128, by omega⟩ : Fin 5632) = ⟨2816 + (256 * n + q.val), by omega⟩ := Fin.ext (by show 2816 + 256 * n + 128 * (q.val / 128) + q.val % 128 = 2816 + (256 * n + q.val); omega)
  rw [← e0, ← e1]
  rw [← eq] at k0 k1
  exact congrArg₂ (fun a b : EReal => a * Ideal.logistic a * b) k0 k1

theorem acc_eq (h : Fin 2) (j : Fin 256) (d : Fin 1024) :
    accRd i arg2 harg2 arg3 harg3 arg4 harg4 arg5 harg5 arg6 harg6 arg7 harg7 arg8 harg8 arg9 harg9 arg10 harg10 arg12 harg12 arg13 harg13 arg14 harg14 arg15 harg15 arg16 harg16 arg17 harg17 arg23 x0 x1 x2 x3 x4 x5 x6 x7 x8 x10 x11 x12 x13 x14 x15 11 (by omega) (ix2 ⟨256 * h.val + j.val, by omega⟩ d)
      = lin (glu (convAt i x0 x1 x2 x3 x4 x5 x6 x7 x8 x10 x11 x12 x13 x14 (2 * j.val + h.val) (by omega))) (fun q d => x15 (ix2 q d)) d := by
  unfold accRd
  rw [acc_apply _ _ _ _ (fun q => if hq : q < 2816 then glu (convAt i x0 x1 x2 x3 x4 x5 x6 x7 x8 x10 x11 x12 x13 x14 (2 * j.val + h.val) (by omega)) ⟨q, hq⟩ * x15 (ix2 ⟨q, hq⟩ d) else 0)]
  · unfold lin
    rw [show 256 * 11 = 2816 from rfl, Finset.sum_range]
    exact Finset.sum_congr rfl fun q _ => dif_pos q.isLt
  · intro n hn q
    rw [act_eq, dif_pos (by omega), rd_eq]
    refine congrArg (_ * ·) (congrArg x15 ?_)
    funext a
    apply Fin.ext
    match a with
    | ⟨0, _⟩ => show 256 * n + 1 * q.val = 256 * n + q.val; omega
    | ⟨1, _⟩ => show 0 + 1 * d.val = d.val; omega

/-- THE TILE at an element. -/
theorem tile_apply (r : Fin 512) (d : Fin 1024) :
    tile i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 arg24 x0 x1 x2 x3 x4 x5 x6 x7 x8 x9 x10 x11 x12 x13 x14 x15 x16 x17 x18 x19 (ix3 0 r d)
      = rowOut (upAt i x0 x1 x2 x3 x4 x5 x6 x7 x8 x10 x11 x12 (7 + r.val) (by omega)) (upAt i x0 x1 x2 x3 x4 x5 x6 x7 x8 x10 x11 x12 (8 + r.val) (by omega))
          (upAt i x0 x1 x2 x3 x4 x5 x6 x7 x8 x10 x11 x12 (9 + r.val) (by omega)) (fun k q => x13 (ix2 k q)) (fun q => x14 (ix2 0 q)) (fun q d => x15 (ix2 q d))
          (rowAt x0 x1 x2 x3 x4 x5 x6 x7 x8 x10 (16 + r.val) (by omega)) (rmsD (lin (fun k => x9 (ix3 0 r k)) (fun k d => x16 (ix2 k d))) (fun x => x17 (ix2 0 x)))
          (fun k d => x18 (ix2 k d)) (fun d => x19 (ix2 0 d)) d := by
  unfold tile
  rw [gated_apply]
  unfold rowOut
  congr 1
  · funext d
    unfold embRd
    rw [emb_apply]
    simp only [rd_eq]
    congr 1
    · congr 1
      · funext k; pointwise
      · funext k d; pointwise
    · funext x; pointwise
  · funext d
    refine congrArg₂ (· + ·) ?_ ?_
    · exact (centre_apply _ r d).trans (xmix_eq arg2 harg2 arg3 harg3 arg4 harg4 arg5 harg5 arg6 harg6 arg7 harg7 arg8 harg8 arg9 harg9 arg10 harg10 arg12 harg12 x0 x1 x2 x3 x4 x5 x6 x7 x8 x10 ⟨16 + r.val, by omega⟩ d)
    · refine (ordered_apply _ _ r d).trans ?_
      refine (acc_eq i arg2 harg2 arg3 harg3 arg4 harg4 arg5 harg5 arg6 harg6 arg7 harg7 arg8 harg8 arg9 harg9 arg10 harg10 arg12 harg12 arg13 harg13 arg14 harg14 arg15 harg15 arg16 harg16 arg17 harg17 arg23
        x0 x1 x2 x3 x4 x5 x6 x7 x8 x10 x11 x12 x13 x14 x15 ⟨r.val % 2, by omega⟩ ⟨r.val / 2, by omega⟩ d).trans ?_
      have e : 2 * (r.val / 2) + r.val % 2 = r.val := by omega
      have key : ∀ (n : ℕ) (hn : n < 512), n = r.val → lin (glu (convAt i x0 x1 x2 x3 x4 x5 x6 x7 x8 x10 x11 x12 x13 x14 n hn)) (fun q d => x15 (ix2 q d)) d
          = lin (glu (convAt i x0 x1 x2 x3 x4 x5 x6 x7 x8 x10 x11 x12 x13 x14 r.val r.isLt)) (fun q d => x15 (ix2 q d)) d := by
        intro n hn en
        subst en
        rfl
      exact key _ _ e
  · funext k d; rw [rd_eq]; pointwise
  · funext d; rw [rd_eq]; pointwise

end

end Cert.Ffn

end
-- ==== Proof.Ffn.Spec.lean ====
/- The feed-forward call's result, element by element, as one function of the argument arrays, at any batch. -/
module

public import proofs.«01_k».proof.Proof.Ffn.Math

@[expose] public section

noncomputable section

namespace Cert.Ffn

open Idealize.ShloMosaic

section
variable {B : ℕ} (x0 : (⟨3, ![B, 16384, 1024]⟩ : Shape).Idx → EReal) (x1 : (⟨3, ![B, 16384, 512]⟩ : Shape).Idx → EReal) (x2 : (⟨4, ![B, 4, 16384, 128]⟩ : Shape).Idx → EReal)
  (x3 : (⟨3, ![B, 16384, 256]⟩ : Shape).Idx → EReal) (x4 : (⟨2, ![1024, 1024]⟩ : Shape).Idx → EReal) (x5 : (⟨2, ![1, 1024]⟩ : Shape).Idx → EReal)
  (x6 : (⟨2, ![1024, 5632]⟩ : Shape).Idx → EReal) (x7 : (⟨2, ![3, 5632]⟩ : Shape).Idx → EReal) (x8 : (⟨2, ![1, 5632]⟩ : Shape).Idx → EReal)
  (x9 : (⟨2, ![2816, 1024]⟩ : Shape).Idx → EReal) (x10 : (⟨2, ![256, 1024]⟩ : Shape).Idx → EReal) (x11 : (⟨2, ![1, 1024]⟩ : Shape).Idx → EReal)
  (x12 : (⟨2, ![1024, 1024]⟩ : Shape).Idx → EReal) (x13 : (⟨2, ![1, 1024]⟩ : Shape).Idx → EReal)

/-- The residual row after the mixers, -/
def resRow (b : Fin B) (R : Fin 16384) : Fin 1024 → EReal :=
  mid (fun d => x0 (ix3 b R d)) (mix (fun k => x1 (ix3 b R k)) (fun s l => x2 (ix4 b s R l))) (fun k d => x4 (ix2 k d))
/-- normalised, -/
def hidRow (b : Fin B) (R : Fin 16384) : Fin 1024 → EReal := rmsD (resRow x0 x1 x2 x4 b R) (fun x => x5 (ix2 0 x))
/-- and projected up; a row of zeros stands before the first row and after the last one. -/
def upRow (b : Fin B) (n : ℕ) : Fin 5632 → EReal := fun q =>
  if h : 1 ≤ n ∧ n ≤ 16384 then lin (hidRow x0 x1 x2 x4 x5 b ⟨n - 1, by omega⟩) (fun k q => x6 (ix2 k q)) q else 0
/-- The embedding's row. -/
def embRow (b : Fin B) (R : Fin 16384) : Fin 1024 → EReal :=
  rmsD (lin (fun k => x3 (ix3 b R k)) (fun k d => x10 (ix2 k d))) (fun x => x11 (ix2 0 x))
/-- The result's row. -/
def outRow (b : Fin B) (R : Fin 16384) : Fin 1024 → EReal :=
  rowOut (upRow x0 x1 x2 x4 x5 x6 b R.val) (upRow x0 x1 x2 x4 x5 x6 b (1 + R.val)) (upRow x0 x1 x2 x4 x5 x6 b (2 + R.val))
    (fun k q => x7 (ix2 k q)) (fun q => x8 (ix2 0 q)) (fun q d => x9 (ix2 q d)) (resRow x0 x1 x2 x4 b R) (embRow x3 x10 x11 b R)
    (fun k d => x12 (ix2 k d)) (fun d => x13 (ix2 0 d))
/-- The result. -/
def ffnOut : (⟨3, ![B, 16384, 1024]⟩ : Shape).Idx → EReal := fun y =>
  outRow x0 x1 x2 x3 x4 x5 x6 x7 x8 x9 x10 x11 x12 x13 (y 0) (y 1) (y 2)
end

/-- The logistic function, printed as a quotient. -/
theorem logistic_eq (z : EReal) :
    Ideal.div (Ideal.ofBits .f32 0x3F800000#32) (Ideal.ofBits .f32 0x3F800000#32 + Ideal.exp (-z)) = Ideal.logistic z := by
  rw [bits_one]
  rfl

end Cert.Ffn

end
-- ==== Proof.Ffn.Staged.lean ====
/- What one grid step's staged blocks hold, and the tile it makes of them: a tile of the result. -/
module

public import proofs.«01_k».proof.Proof.Ffn.Row
public import proofs.«01_k».proof.Proof.Ffn.Spec

@[expose] public section

set_option maxRecDepth 16384

noncomputable section

namespace Cert.Ffn

open Cert.Kernel2Ideal Cert.Kernel2Ideal.Gen Idealize.ShloMosaic Idealize.ShloMosaic.TcCoe Idealize.SL.Sem

section
variable {B : ℕ} (b : Fin B) (i : Fin 32)
  (x0 : Vec Ideal S1x512x1024 .f32) (x1 : Vec Ideal S1x16x1024 .f32) (x2 : Vec Ideal S1x16x1024 .f32) (x3 : Vec Ideal S1x512x512 .bf16) (x4 : Vec Ideal S1x16x512 .bf16) (x5 : Vec Ideal S1x16x512 .bf16) (x6 : Vec Ideal S1x4x512x128 .f32) (x7 : Vec Ideal S1x4x16x128 .f32) (x8 : Vec Ideal S1x4x16x128 .f32) (x9 : Vec Ideal S1x512x256 .f32) (x10 : Vec Ideal S1024x1024 .bf16) (x11 : Vec Ideal S1x1024 .f32) (x12 : Vec Ideal S1024x5632 .bf16) (x13 : Vec Ideal S3x5632 .f32) (x14 : Vec Ideal S1x5632 .f32) (x15 : Vec Ideal S2816x1024 .bf16) (x16 : Vec Ideal S256x1024 .bf16) (x17 : Vec Ideal S1x1024 .f32) (x18 : Vec Ideal S1024x1024 .bf16) (x19 : Vec Ideal S1x1024 .f32)
  (A0 : (⟨3, ![B, 16384, 1024]⟩ : Shape).Idx → EReal) (A1 : (⟨3, ![B, 16384, 512]⟩ : Shape).Idx → EReal) (A2 : (⟨4, ![B, 4, 16384, 128]⟩ : Shape).Idx → EReal)
  (A3 : (⟨3, ![B, 16384, 256]⟩ : Shape).Idx → EReal) (A4 : (⟨2, ![1024, 1024]⟩ : Shape).Idx → EReal) (A5 : (⟨2, ![1, 1024]⟩ : Shape).Idx → EReal)
  (A6 : (⟨2, ![1024, 5632]⟩ : Shape).Idx → EReal) (A7 : (⟨2, ![3, 5632]⟩ : Shape).Idx → EReal) (A8 : (⟨2, ![1, 5632]⟩ : Shape).Idx → EReal)
  (A9 : (⟨2, ![2816, 1024]⟩ : Shape).Idx → EReal) (A10 : (⟨2, ![256, 1024]⟩ : Shape).Idx → EReal) (A11 : (⟨2, ![1, 1024]⟩ : Shape).Idx → EReal)
  (A12 : (⟨2, ![1024, 1024]⟩ : Shape).Idx → EReal) (A13 : (⟨2, ![1, 1024]⟩ : Shape).Idx → EReal)

/-- The staged blocks hold the argument arrays' rows that belong to tile `i` of batch entry `b`. -/
structure Staged : Prop where
  r0 : ∀ (a : Fin 512) (l : Fin 1024), x0 (ix3 0 a l) = A0 (ix3 b ⟨512 * i.val + a.val, by omega⟩ l)
  r1 : ∀ (a : Fin 16) (l : Fin 1024), x1 (ix3 0 a l) = A0 (ix3 b ⟨16 * (32 * i.val - 1) + a.val, by omega⟩ l)
  r2 : ∀ (a : Fin 16) (l : Fin 1024), x2 (ix3 0 a l) = A0 (ix3 b ⟨16 * min (32 * i.val + 32) 1023 + a.val, by omega⟩ l)
  r3 : ∀ (a : Fin 512) (l : Fin 512), x3 (ix3 0 a l) = A1 (ix3 b ⟨512 * i.val + a.val, by omega⟩ l)
  r4 : ∀ (a : Fin 16) (l : Fin 512), x4 (ix3 0 a l) = A1 (ix3 b ⟨16 * (32 * i.val - 1) + a.val, by omega⟩ l)
  r5 : ∀ (a : Fin 16) (l : Fin 512), x5 (ix3 0 a l) = A1 (ix3 b ⟨16 * min (32 * i.val + 32) 1023 + a.val, by omega⟩ l)
  r6 : ∀ (s : Fin 4) (a : Fin 512) (l : Fin 128), x6 (ix4 0 s a l) = A2 (ix4 b s ⟨512 * i.val + a.val, by omega⟩ l)
  r7 : ∀ (s : Fin 4) (a : Fin 16) (l : Fin 128), x7 (ix4 0 s a l) = A2 (ix4 b s ⟨16 * (32 * i.val - 1) + a.val, by omega⟩ l)
  r8 : ∀ (s : Fin 4) (a : Fin 16) (l : Fin 128), x8 (ix4 0 s a l) = A2 (ix4 b s ⟨16 * min (32 * i.val + 32) 1023 + a.val, by omega⟩ l)
  r9 : ∀ (a : Fin 512) (l : Fin 256), x9 (ix3 0 a l) = A3 (ix3 b ⟨512 * i.val + a.val, by omega⟩ l)
  r10 : ∀ (a : Fin 1024) (l : Fin 1024), x10 (ix2 a l) = A4 (ix2 a l)
  r11 : ∀ (a : Fin 1) (l : Fin 1024), x11 (ix2 a l) = A5 (ix2 a l)
  r12 : ∀ (a : Fin 1024) (l : Fin 5632), x12 (ix2 a l) = A6 (ix2 a l)
  r13 : ∀ (a : Fin 3) (l : Fin 5632), x13 (ix2 a l) = A7 (ix2 a l)
  r14 : ∀ (a : Fin 1) (l : Fin 5632), x14 (ix2 a l) = A8 (ix2 a l)
  r15 : ∀ (a : Fin 2816) (l : Fin 1024), x15 (ix2 a l) = A9 (ix2 a l)
  r16 : ∀ (a : Fin 256) (l : Fin 1024), x16 (ix2 a l) = A10 (ix2 a l)
  r17 : ∀ (a : Fin 1) (l : Fin 1024), x17 (ix2 a l) = A11 (ix2 a l)
  r18 : ∀ (a : Fin 1024) (l : Fin 1024), x18 (ix2 a l) = A12 (ix2 a l)
  r19 : ∀ (a : Fin 1) (l : Fin 1024), x19 (ix2 a l) = A13 (ix2 a l)

end

section
variable {B : ℕ} {b : Fin B} {i : Fin 32}
  {x0 : Vec Ideal S1x512x1024 .f32} {x1 : Vec Ideal S1x16x1024 .f32} {x2 : Vec Ideal S1x16x1024 .f32} {x3 : Vec Ideal S1x512x512 .bf16} {x4 : Vec Ideal S1x16x512 .bf16} {x5 : Vec Ideal S1x16x512 .bf16} {x6 : Vec Ideal S1x4x512x128 .f32} {x7 : Vec Ideal S1x4x16x128 .f32} {x8 : Vec Ideal S1x4x16x128 .f32} {x9 : Vec Ideal S1x512x256 .f32} {x10 : Vec Ideal S1024x1024 .bf16} {x11 : Vec Ideal S1x1024 .f32} {x12 : Vec Ideal S1024x5632 .bf16} {x13 : Vec Ideal S3x5632 .f32} {x14 : Vec Ideal S1x5632 .f32} {x15 : Vec Ideal S2816x1024 .bf16} {x16 : Vec Ideal S256x1024 .bf16} {x17 : Vec Ideal S1x1024 .f32} {x18 : Vec Ideal S1024x1024 .bf16} {x19 : Vec Ideal S1x1024 .f32}
  {A0 : (⟨3, ![B, 16384, 1024]⟩ : Shape).Idx → EReal} {A1 : (⟨3, ![B, 16384, 512]⟩ : Shape).Idx → EReal} {A2 : (⟨4, ![B, 4, 16384, 128]⟩ : Shape).Idx → EReal}
  {A3 : (⟨3, ![B, 16384, 256]⟩ : Shape).Idx → EReal} {A4 : (⟨2, ![1024, 1024]⟩ : Shape).Idx → EReal} {A5 : (⟨2, ![1, 1024]⟩ : Shape).Idx → EReal}
  {A6 : (⟨2, ![1024, 5632]⟩ : Shape).Idx → EReal} {A7 : (⟨2, ![3, 5632]⟩ : Shape).Idx → EReal} {A8 : (⟨2, ![1, 5632]⟩ : Shape).Idx → EReal}
  {A9 : (⟨2, ![2816, 1024]⟩ : Shape).Idx → EReal} {A10 : (⟨2, ![256, 1024]⟩ : Shape).Idx → EReal} {A11 : (⟨2, ![1, 1024]⟩ : Shape).Idx → EReal}
  {A12 : (⟨2, ![1024, 1024]⟩ : Shape).Idx → EReal} {A13 : (⟨2, ![1, 1024]⟩ : Shape).Idx → EReal}

/-- Rows of one array in three blocks: those of the tile, sixteen before and sixteen after it. -/
theorem ext_eq (n : ℕ) (A : Fin 16384 → Fin n → EReal) (i : ℕ) (hi : i < 32) (a : Fin 16 → Fin n → EReal) (b : Fin 512 → Fin n → EReal) (d : Fin 16 → Fin n → EReal)
    (ha : ∀ (r : Fin 16) (l : Fin n), a r l = A ⟨16 * (32 * i - 1) + r.val, by omega⟩ l) (hb : ∀ (r : Fin 512) (l : Fin n), b r l = A ⟨512 * i + r.val, by omega⟩ l)
    (hd : ∀ (r : Fin 16) (l : Fin n), d r l = A ⟨16 * min (32 * i + 32) 1023 + r.val, by omega⟩ l) (e : ℕ) (he : e < 544) (h0 : i = 0 → 16 ≤ e) (h1 : i = 31 → e < 528)
    (l : Fin n) : ext n a b d e he l = A ⟨512 * i + e - 16, by omega⟩ l := by
  unfold ext
  split_ifs with g1 g2
  · rw [ha]; congr 1; apply Fin.ext; dsimp only; omega
  · rw [hb]; congr 1; apply Fin.ext; dsimp only; omega
  · rw [hd]; congr 1; apply Fin.ext; dsimp only; omega

theorem row_eq (H : Staged b i x0 x1 x2 x3 x4 x5 x6 x7 x8 x9 x10 x11 x12 x13 x14 x15 x16 x17 x18 x19 A0 A1 A2 A3 A4 A5 A6 A7 A8 A9 A10 A11 A12 A13) (e : ℕ) (he : e < 544) (h0 : i.val = 0 → 16 ≤ e) (h1 : i.val = 31 → e < 528) :
    rowAt x0 x1 x2 x3 x4 x5 x6 x7 x8 x10 e he
      = resRow A0 A1 A2 A4 b ⟨512 * i.val + e - 16, by have : i.val < 32 := i.isLt; omega⟩ := by
  have h32 : i.val < 32 := i.isLt
  unfold rowAt resRow
  congr 1
  · funext d
    exact ext_eq 1024 (fun R d => A0 (ix3 b R d)) i.val h32 _ _ _ H.r1 H.r0 H.r2 e he h0 h1 d
  · congr 1
    · funext d
      exact ext_eq 512 (fun R d => A1 (ix3 b R d)) i.val h32 _ _ _ H.r4 H.r3 H.r5 e he h0 h1 d
    · funext s d
      exact ext_eq 128 (fun R d => A2 (ix4 b s R d)) i.val h32 _ _ _ (H.r7 s) (H.r6 s) (H.r8 s) e he h0 h1 d
  · funext k d
    exact H.r10 k d

theorem up_eq (H : Staged b i x0 x1 x2 x3 x4 x5 x6 x7 x8 x9 x10 x11 x12 x13 x14 x15 x16 x17 x18 x19 A0 A1 A2 A3 A4 A5 A6 A7 A8 A9 A10 A11 A12 A13) (q : ℕ) (hq : q < 528) (h7 : 7 ≤ q) (h520 : q ≤ 520) :
    upAt i x0 x1 x2 x3 x4 x5 x6 x7 x8 x10 x11 x12 q hq = upRow A0 A1 A2 A4 A5 A6 b (512 * i.val + q - 7) := by
  have h32 : i.val < 32 := i.isLt
  funext col
  unfold upAt upRow
  by_cases h : (i.val = 0 → 8 ≤ q) ∧ (i.val = 31 → q < 520)
  · rw [dif_pos (by omega)]
    congr 1
    · funext d
      unfold hidAt hidRow
      rw [if_pos h]
      congr 1
      · rw [row_eq H (8 + q) (by omega) (by omega) (by omega)]
        congr 1
        apply Fin.ext
        dsimp only
        omega
      · funext x
        exact H.r11 0 x
    · funext k q
      exact H.r12 k q
  · rw [dif_neg (by omega)]
    unfold lin hidAt
    refine Finset.sum_eq_zero fun x _ => ?_
    rw [if_neg h, zero_mul]

/-- The tile's row is the result's row. -/
theorem Staged.row_value (H : Staged b i x0 x1 x2 x3 x4 x5 x6 x7 x8 x9 x10 x11 x12 x13 x14 x15 x16 x17 x18 x19 A0 A1 A2 A3 A4 A5 A6 A7 A8 A9 A10 A11 A12 A13) (r : Fin 512) (d : Fin 1024) :
    rowOut (upAt i x0 x1 x2 x3 x4 x5 x6 x7 x8 x10 x11 x12 (7 + r.val) (by omega)) (upAt i x0 x1 x2 x3 x4 x5 x6 x7 x8 x10 x11 x12 (8 + r.val) (by omega))
        (upAt i x0 x1 x2 x3 x4 x5 x6 x7 x8 x10 x11 x12 (9 + r.val) (by omega)) (fun k q => x13 (ix2 k q)) (fun q => x14 (ix2 0 q)) (fun q d => x15 (ix2 q d))
        (rowAt x0 x1 x2 x3 x4 x5 x6 x7 x8 x10 (16 + r.val) (by omega)) (rmsD (lin (fun k => x9 (ix3 0 r k)) (fun k d => x16 (ix2 k d))) (fun x => x17 (ix2 0 x)))
        (fun k d => x18 (ix2 k d)) (fun d => x19 (ix2 0 d)) d
      = outRow A0 A1 A2 A3 A4 A5 A6 A7 A8 A9 A10 A11 A12 A13 b ⟨512 * i.val + r.val, by omega⟩ d := by
  have h32 : i.val < 32 := i.isLt
  unfold outRow
  congr 1
  · refine (up_eq H (7 + r.val) (by omega) (by omega) (by omega)).trans (congrArg _ ?_)
    dsimp only; omega
  · refine (up_eq H (8 + r.val) (by omega) (by omega) (by omega)).trans (congrArg _ ?_)
    dsimp only; omega
  · refine (up_eq H (9 + r.val) (by omega) (by omega) (by omega)).trans (congrArg _ ?_)
    dsimp only; omega
  · funext k q
    exact H.r13 k q
  · funext q
    exact H.r14 0 q
  · funext q d
    exact H.r15 q d
  · refine (row_eq H (16 + r.val) (by omega) (by omega) (by omega)).trans (congrArg _ ?_)
    apply Fin.ext
    dsimp only; omega
  · unfold embRow
    congr 1
    · congr 1
      · funext k
        exact H.r9 r k
      · funext k d
        exact H.r16 k d
    · funext x
      exact H.r17 0 x
  · funext k d
    exact H.r18 k d
  · funext d
    exact H.r19 0 d

end

end Cert.Ffn

end
-- ==== Proof.Ffn.Array.lean ====
/- The feed-forward kernel's result array after its run, as one function of the argument arrays. -/
module

public import proofs.«01_k».proof.Proof.Ffn.Pieces
public import proofs.«01_k».proof.Proof.Ffn.Staged
public import proofs.«01_k».proof.Proof.Gen.Kernel2Ideal.Value
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ)

theorem ix_main : ∀ t : Fin cfg0.N, win0_0.index t = ![(grid0.coords t 0).val, (grid0.coords t 1).val, 0] ∧ win0_3.index t = ![(grid0.coords t 0).val, (grid0.coords t 1).val, 0] ∧ win0_9.index t = ![(grid0.coords t 0).val, (grid0.coords t 1).val, 0] ∧ win0_20.index t = ![(grid0.coords t 0).val, (grid0.coords t 1).val, 0] ∧ win0_6.index t = ![(grid0.coords t 0).val, 0, (grid0.coords t 1).val, 0] :=
  (by decide +kernel : ∀ t : Fin grid0.N, win0_0.index t = ![(grid0.coords t 0).val, (grid0.coords t 1).val, 0] ∧ win0_3.index t = ![(grid0.coords t 0).val, (grid0.coords t 1).val, 0] ∧ win0_9.index t = ![(grid0.coords t 0).val, (grid0.coords t 1).val, 0] ∧ win0_20.index t = ![(grid0.coords t 0).val, (grid0.coords t 1).val, 0] ∧ win0_6.index t = ![(grid0.coords t 0).val, 0, (grid0.coords t 1).val, 0])

theorem ix_prev : ∀ t : Fin cfg0.N, win0_1.index t = ![(grid0.coords t 0).val, 32 * (grid0.coords t 1).val - 1, 0] ∧ win0_4.index t = ![(grid0.coords t 0).val, 32 * (grid0.coords t 1).val - 1, 0] ∧ win0_7.index t = ![(grid0.coords t 0).val, 0, 32 * (grid0.coords t 1).val - 1, 0] :=
  (by decide +kernel : ∀ t : Fin grid0.N, win0_1.index t = ![(grid0.coords t 0).val, 32 * (grid0.coords t 1).val - 1, 0] ∧ win0_4.index t = ![(grid0.coords t 0).val, 32 * (grid0.coords t 1).val - 1, 0] ∧ win0_7.index t = ![(grid0.coords t 0).val, 0, 32 * (grid0.coords t 1).val - 1, 0])

theorem ix_next : ∀ t : Fin cfg0.N, win0_2.index t = ![(grid0.coords t 0).val, min (32 * (grid0.coords t 1).val + 32) 1023, 0] ∧ win0_5.index t = ![(grid0.coords t 0).val, min (32 * (grid0.coords t 1).val + 32) 1023, 0] ∧ win0_8.index t = ![(grid0.coords t 0).val, 0, min (32 * (grid0.coords t 1).val + 32) 1023, 0] :=
  (by decide +kernel : ∀ t : Fin grid0.N, win0_2.index t = ![(grid0.coords t 0).val, min (32 * (grid0.coords t 1).val + 32) 1023, 0] ∧ win0_5.index t = ![(grid0.coords t 0).val, min (32 * (grid0.coords t 1).val + 32) 1023, 0] ∧ win0_8.index t = ![(grid0.coords t 0).val, 0, min (32 * (grid0.coords t 1).val + 32) 1023, 0])

theorem ix_whole : ∀ t : Fin cfg0.N, win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] :=
  (by decide +kernel : ∀ t : Fin grid0.N, win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0])

theorem read_0 (c : Dev nD) (t : Fin cfg0.N) (a : Fin 512) (l : Fin 1024) : iblk m c 0 t (ix3 0 a l)
    = m ((c : Thread nD τ).loc main_arg0) (ix3 (grid0.coords t 0) ⟨512 * (grid0.coords t 1).val + a.val, by have : (grid0.coords t 1).val < 32 := (grid0.coords t 1).isLt; omega⟩ l) := by
  blk_simp [iblk]
  rw [V_main_arg0]
  congr 1
  blk_ext [(ix_main t).1]

theorem read_1 (c : Dev nD) (t : Fin cfg0.N) (a : Fin 16) (l : Fin 1024) : iblk m c 1 t (ix3 0 a l)
    = m ((c : Thread nD τ).loc main_arg0) (ix3 (grid0.coords t 0) ⟨16 * (32 * (grid0.coords t 1).val - 1) + a.val, by have : (grid0.coords t 1).val < 32 := (grid0.coords t 1).isLt; omega⟩ l) := by
  blk_simp [iblk]
  rw [V_main_arg0]
  congr 1
  blk_ext [(ix_prev t).1]

theorem read_2 (c : Dev nD) (t : Fin cfg0.N) (a : Fin 16) (l : Fin 1024) : iblk m c 2 t (ix3 0 a l)
    = m ((c : Thread nD τ).loc main_arg0) (ix3 (grid0.coords t 0) ⟨16 * min (32 * (grid0.coords t 1).val + 32) 1023 + a.val, by have : (grid0.coords t 1).val < 32 := (grid0.coords t 1).isLt; omega⟩ l) := by
  blk_simp [iblk]
  rw [V_main_arg0]
  congr 1
  blk_ext [(ix_next t).1]

theorem read_3 (c : Dev nD) (t : Fin cfg0.N) (a : Fin 512) (l : Fin 512) : iblk m c 3 t (ix3 0 a l)
    = m ((c : Thread nD τ).loc main_arg1) (ix3 (grid0.coords t 0) ⟨512 * (grid0.coords t 1).val + a.val, by have : (grid0.coords t 1).val < 32 := (grid0.coords t 1).isLt; omega⟩ l) := by
  blk_simp [iblk]
  rw [V_main_arg1]
  congr 1
  blk_ext [(ix_main t).2.1]

theorem read_4 (c : Dev nD) (t : Fin cfg0.N) (a : Fin 16) (l : Fin 512) : iblk m c 4 t (ix3 0 a l)
    = m ((c : Thread nD τ).loc main_arg1) (ix3 (grid0.coords t 0) ⟨16 * (32 * (grid0.coords t 1).val - 1) + a.val, by have : (grid0.coords t 1).val < 32 := (grid0.coords t 1).isLt; omega⟩ l) := by
  blk_simp [iblk]
  rw [V_main_arg1]
  congr 1
  blk_ext [(ix_prev t).2.1]

theorem read_5 (c : Dev nD) (t : Fin cfg0.N) (a : Fin 16) (l : Fin 512) : iblk m c 5 t (ix3 0 a l)
    = m ((c : Thread nD τ).loc main_arg1) (ix3 (grid0.coords t 0) ⟨16 * min (32 * (grid0.coords t 1).val + 32) 1023 + a.val, by have : (grid0.coords t 1).val < 32 := (grid0.coords t 1).isLt; omega⟩ l) := by
  blk_simp [iblk]
  rw [V_main_arg1]
  congr 1
  blk_ext [(ix_next t).2.1]

theorem read_6 (c : Dev nD) (t : Fin cfg0.N) (s : Fin 4) (a : Fin 512) (l : Fin 128) : iblk m c 6 t (ix4 0 s a l)
    = m ((c : Thread nD τ).loc main_arg2) (ix4 (grid0.coords t 0) s ⟨512 * (grid0.coords t 1).val + a.val, by have : (grid0.coords t 1).val < 32 := (grid0.coords t 1).isLt; omega⟩ l) := by
  blk_simp [iblk]
  rw [V_main_arg2]
  congr 1
  blk_ext [(ix_main t).2.2.2.2]

theorem read_7 (c : Dev nD) (t : Fin cfg0.N) (s : Fin 4) (a : Fin 16) (l : Fin 128) : iblk m c 7 t (ix4 0 s a l)
    = m ((c : Thread nD τ).loc main_arg2) (ix4 (grid0.coords t 0) s ⟨16 * (32 * (grid0.coords t 1).val - 1) + a.val, by have : (grid0.coords t 1).val < 32 := (grid0.coords t 1).isLt; omega⟩ l) := by
  blk_simp [iblk]
  rw [V_main_arg2]
  congr 1
  blk_ext [(ix_prev t).2.2]

theorem read_8 (c : Dev nD) (t : Fin cfg0.N) (s : Fin 4) (a : Fin 16) (l : Fin 128) : iblk m c 8 t (ix4 0 s a l)
    = m ((c : Thread nD τ).loc main_arg2) (ix4 (grid0.coords t 0) s ⟨16 * min (32 * (grid0.coords t 1).val + 32) 1023 + a.val, by have : (grid0.coords t 1).val < 32 := (grid0.coords t 1).isLt; omega⟩ l) := by
  blk_simp [iblk]
  rw [V_main_arg2]
  congr 1
  blk_ext [(ix_next t).2.2]

theorem read_9 (c : Dev nD) (t : Fin cfg0.N) (a : Fin 512) (l : Fin 256) : iblk m c 9 t (ix3 0 a l)
    = m ((c : Thread nD τ).loc main_arg3) (ix3 (grid0.coords t 0) ⟨512 * (grid0.coords t 1).val + a.val, by have : (grid0.coords t 1).val < 32 := (grid0.coords t 1).isLt; omega⟩ l) := by
  blk_simp [iblk]
  rw [V_main_arg3]
  congr 1
  blk_ext [(ix_main t).2.2.1]

theorem read_10 (c : Dev nD) (t : Fin cfg0.N) (a : Fin 1024) (l : Fin 1024) : iblk m c 10 t (ix2 a l) = m ((c : Thread nD τ).loc main_arg4) (ix2 a l) := by
  blk_simp [iblk]
  rw [V_main_arg4]
  congr 1
  blk_ext [(ix_whole t).1]

theorem read_11 (c : Dev nD) (t : Fin cfg0.N) (a : Fin 1) (l : Fin 1024) : iblk m c 11 t (ix2 a l) = m ((c : Thread nD τ).loc main_arg5) (ix2 a l) := by
  blk_simp [iblk]
  rw [V_main_arg5]
  congr 1
  blk_ext [(ix_whole t).2.1]

theorem read_12 (c : Dev nD) (t : Fin cfg0.N) (a : Fin 1024) (l : Fin 5632) : iblk m c 12 t (ix2 a l) = m ((c : Thread nD τ).loc main_arg6) (ix2 a l) := by
  blk_simp [iblk]
  rw [V_main_arg6]
  congr 1
  blk_ext [(ix_whole t).2.2.1]

theorem read_13 (c : Dev nD) (t : Fin cfg0.N) (a : Fin 3) (l : Fin 5632) : iblk m c 13 t (ix2 a l) = m ((c : Thread nD τ).loc main_arg7) (ix2 a l) := by
  blk_simp [iblk]
  rw [V_main_arg7]
  congr 1
  blk_ext [(ix_whole t).2.2.2.1]

theorem read_14 (c : Dev nD) (t : Fin cfg0.N) (a : Fin 1) (l : Fin 5632) : iblk m c 14 t (ix2 a l) = m ((c : Thread nD τ).loc main_arg8) (ix2 a l) := by
  blk_simp [iblk]
  rw [V_main_arg8]
  congr 1
  blk_ext [(ix_whole t).2.2.2.2.1]

theorem read_15 (c : Dev nD) (t : Fin cfg0.N) (a : Fin 2816) (l : Fin 1024) : iblk m c 15 t (ix2 a l) = m ((c : Thread nD τ).loc main_arg9) (ix2 a l) := by
  blk_simp [iblk]
  rw [V_main_arg9]
  congr 1
  blk_ext [(ix_whole t).2.2.2.2.2.1]

theorem read_16 (c : Dev nD) (t : Fin cfg0.N) (a : Fin 256) (l : Fin 1024) : iblk m c 16 t (ix2 a l) = m ((c : Thread nD τ).loc main_arg10) (ix2 a l) := by
  blk_simp [iblk]
  rw [V_main_arg10]
  congr 1
  blk_ext [(ix_whole t).2.2.2.2.2.2.1]

theorem read_17 (c : Dev nD) (t : Fin cfg0.N) (a : Fin 1) (l : Fin 1024) : iblk m c 17 t (ix2 a l) = m ((c : Thread nD τ).loc main_arg11) (ix2 a l) := by
  blk_simp [iblk]
  rw [V_main_arg11]
  congr 1
  blk_ext [(ix_whole t).2.2.2.2.2.2.2.1]

theorem read_18 (c : Dev nD) (t : Fin cfg0.N) (a : Fin 1024) (l : Fin 1024) : iblk m c 18 t (ix2 a l) = m ((c : Thread nD τ).loc main_arg12) (ix2 a l) := by
  blk_simp [iblk]
  rw [V_main_arg12]
  congr 1
  blk_ext [(ix_whole t).2.2.2.2.2.2.2.2.1]

theorem read_19 (c : Dev nD) (t : Fin cfg0.N) (a : Fin 1) (l : Fin 1024) : iblk m c 19 t (ix2 a l) = m ((c : Thread nD τ).loc main_arg13) (ix2 a l) := by
  blk_simp [iblk]
  rw [V_main_arg13]
  congr 1
  blk_ext [(ix_whole t).2.2.2.2.2.2.2.2.2]

/-- The staged output block in terms of the staged input blocks. -/
theorem out_apply (c : Dev nD) (t : Fin cfg0.N) (y : S1x512x1024.Idx) :
    outsAt0 m c t y = tile (grid0.coords t 1) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y := by
  unfold outsAt0 out0_A_20
  rw [View.read_writes_eq_canon VO0_20 _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (fun y : S1x512x1024.Idx => tile (grid0.coords t 1) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y) _ ?_ y
    (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  rw [pieces]
  intro p hp
  simp only [List.mem_cons, List.not_mem_nil, or_false] at hp
  subst hp
  intro x
  refine congrArg (tile (grid0.coords t 1) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (funext fun a => Fin.ext ?_)
  rw [Rect.emb_apply]
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega

theorem staged (c : Dev nD) (t : Fin cfg0.N) : Staged (B := 2) (grid0.coords t 0) (grid0.coords t 1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  ⟨read_0 m c t, read_1 m c t, read_2 m c t, read_3 m c t, read_4 m c t, read_5 m c t, read_6 m c t, read_7 m c t, read_8 m c t, read_9 m c t, read_10 m c t, read_11 m c t, read_12 m c t, read_13 m c t, read_14 m c t, read_15 m c t, read_16 m c t, read_17 m c t, read_18 m c t, read_19 m c t⟩

theorem block_value (c : Dev nD) (t : Fin cfg0.N) (r : Fin 512) (d : Fin 1024) : outsAt0 m c t (ix3 0 r d)
    = ffnOut (B := 2) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
        (ix3 (grid0.coords t 0) ⟨512 * (grid0.coords t 1).val + r.val, by have : (grid0.coords t 1).val < 32 := (grid0.coords t 1).isLt; omega⟩ d) :=
  (out_apply m c t _).trans ((tile_apply (grid0.coords t 1) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r d).trans ((staged m c t).row_value r d))

/-- THE ARRAY the kernel leaves. -/
theorem final (c : Dev nD) : (dats m 0 c).arrAt 20 cfg0.N = ffnOut (B := 2) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 20 _ (by decide +kernel) fun t hf y => ?_
  blk_simp
  rw [after0_20]
  have h0 : y = ix3 (0 : Fin 1) (y 1 : Fin 512) (y 2 : Fin 1024) :=
    (eq_ix3 (f := y)).trans (congrArg (fun z : Fin 1 => ix3 z (y 1 : Fin 512) (y 2 : Fin 1024)) (Subsingleton.elim (α := Fin 1) _ _))
  refine (congrArg _ h0).trans ((block_value m c t (y 1) (y 2)).trans (congrArg _ ?_))
  blk_ext [(ix_main t).2.2.2.1]

end Cert.Ffn

end
-- ==== Proof.Ffn.Ref.lean ====
/- The feed-forward reference, read at an element: it is the result of `Spec`. -/
module

public import proofs.«01_k».proof.Proof.Ffn.Spec
public import proofs.«01_k».proof.Proof.Gen.Reference2Ideal.Read

@[expose] public section

set_option maxRecDepth 16384

noncomputable section

namespace Cert.Ffn.Ref

open Cert.Reference2Ideal Cert.Reference2Ideal.Gen Cert.Reference2Ideal.Read Idealize.ShloMosaic Idealize.ShloMosaic.TcCoe Idealize.SL.Sem

/-- Two arrays side by side. -/
theorem cat_apply (y z : Vec Ideal S2x16384x512 .f32) (b : Fin 2) (R : Fin 16384) (k : Fin 1024) :
    concatenate S2x16384x1024 2 [⟨S2x16384x512, y⟩, ⟨S2x16384x512, z⟩] concatenates_S2x16384x512_S2x16384x512_S2x16384x1024_d2 (ix3 b R k)
      = if h : k.val < 512 then y (ix3 b R ⟨k.val, h⟩) else z (ix3 b R ⟨k.val - 512, by omega⟩) := by
  pointwise

/-- A row of padding before and after. -/
theorem pad_apply (y : Vec Ideal S2x16384x5632 .f32) (z : Vec Ideal S_ .f32) (b : Fin 2) (n : Fin 16386) (q : Fin 5632) :
    pad S2x16386x5632 ![0, 1, 0] ![0, 1, 0] ![0, 0, 0] y z pads_S2x16384x5632_S2x16386x5632_000_110_000 h_S_ (ix3 b n q)
      = if h : 1 ≤ n.val ∧ n.val ≤ 16384 then y (ix3 b ⟨n.val - 1, by omega⟩ q) else z ix0 := by
  pointwise
  by_cases h : 1 ≤ n.val ∧ n.val ≤ 16384
  · rw [dif_pos h, dif_pos (by omega)]
  · rw [dif_neg h, dif_neg (by omega)]
    exact congrArg z (funext fun a => a.elim0)

theorem pad_zero (i : S_.Idx) : val_main_call0_v0 (F := Ideal) i = 0 := by
  show (((0#32 : BitVec 32).toInt : ℝ) : EReal) = 0
  simp

section
variable (x0 : (⟨S2x16384x1024, .f32⟩ : BufTy).Contents (Elt Ideal)) (x1 : (⟨S2x16384x512, .bf16⟩ : BufTy).Contents (Elt Ideal)) (x2 : (⟨S2x4x16384x128, .f32⟩ : BufTy).Contents (Elt Ideal)) (x3 : (⟨S2x16384x256, .f32⟩ : BufTy).Contents (Elt Ideal)) (x4 : (⟨S1024x1024, .bf16⟩ : BufTy).Contents (Elt Ideal)) (x5 : (⟨S1x1024, .f32⟩ : BufTy).Contents (Elt Ideal)) (x6 : (⟨S1024x5632, .bf16⟩ : BufTy).Contents (Elt Ideal)) (x7 : (⟨S3x5632, .f32⟩ : BufTy).Contents (Elt Ideal)) (x8 : (⟨S1x5632, .f32⟩ : BufTy).Contents (Elt Ideal)) (x9 : (⟨S2816x1024, .bf16⟩ : BufTy).Contents (Elt Ideal)) (x10 : (⟨S256x1024, .bf16⟩ : BufTy).Contents (Elt Ideal)) (x11 : (⟨S1x1024, .f32⟩ : BufTy).Contents (Elt Ideal)) (x12 : (⟨S1024x1024, .bf16⟩ : BufTy).Contents (Elt Ideal)) (x13 : (⟨S1x1024, .f32⟩ : BufTy).Contents (Elt Ideal))

theorem slabs_apply (b : Fin 2) (R : Fin 16384) (k : Fin 512) :
    val_main_v7 (F := Ideal) x2 (ix3 b R k) = x2 (ix4 b ⟨k.val / 128, by omega⟩ R ⟨k.val % 128, by omega⟩) := by
  refine (val_main_v7_apply x2 _).trans ((val_main_v6_apply x2 _).trans (congrArg x2 ?_))
  have hb := b.isLt
  have hR := R.isLt
  have hk := k.isLt
  funext a
  apply Fin.ext
  match a with
  | ⟨0, _⟩ => show ((b.val * 16384 + R.val) * 512 + k.val) / 8388608 = b.val; omega
  | ⟨1, _⟩ => show ((b.val * 16384 + R.val) * 512 + k.val) / 128 % 4 = k.val / 128; omega
  | ⟨2, _⟩ => show ((b.val * 16384 + R.val) * 512 + k.val) / 512 % 16384 = R.val; omega
  | ⟨3, _⟩ => show ((b.val * 16384 + R.val) * 512 + k.val) % 128 = k.val % 128; omega

theorem mixed_apply (b : Fin 2) (R : Fin 16384) (k : Fin 1024) :
    val_main_v8 (F := Ideal) x1 x2 (ix3 b R k) = mix (fun k => x1 (ix3 b R k)) (fun s l => x2 (ix4 b s R l)) k := by
  unfold val_main_v8
  rw [cat_apply]
  unfold mix
  split_ifs with h
  · rfl
  · exact slabs_apply x2 b R _

theorem mid_apply (b : Fin 2) (R : Fin 16384) (d : Fin 1024) :
    val_main_v10 (F := Ideal) x0 x1 x2 x4 (ix3 b R d) = resRow x0 x1 x2 x4 b R d := by
  refine (val_main_v10_apply x0 x1 x2 x4 _).trans (congrArg₂ (· + ·) rfl ?_)
  refine (val_main_v9_apply x1 x2 x4 _).trans (Finset.sum_congr rfl fun k _ => congrArg₂ (· * ·) ?_ ?_)
  · refine Eq.trans (congrArg _ ?_) (mixed_apply x1 x2 b R k)
    funext a
    match a with
    | ⟨0, _⟩ => rfl
    | ⟨1, _⟩ => rfl
    | ⟨2, _⟩ => rfl
  · refine (val_main_v0_apply x4 _).trans (congrArg x4 ?_)
    funext a
    match a with
    | ⟨0, _⟩ => rfl
    | ⟨1, _⟩ => rfl

theorem hid_mean (b : Fin 2) (R : Fin 16384) (d : Fin 1024) :
    val_main_v14 (F := Ideal) x0 x1 x2 x4 (idx_main_v20 (ix3 b R d))
      = Ideal.ofBits .f32 0x00000000#32 + ∑ x, val_main_v10 (F := Ideal) x0 x1 x2 x4 (ix3 b R x) * val_main_v10 (F := Ideal) x0 x1 x2 x4 (ix3 b R x) := by
  refine (val_main_v14_apply x0 x1 x2 x4 _).trans ((val_main_v13_apply x0 x1 x2 x4 _).trans ?_)
  refine congrArg₂ (· + ·) rfl (Finset.sum_congr rfl fun x _ => ?_)
  have e : idx_main_v13 (idx_main_v14 (idx_main_v20 (ix3 b R d))) x = ix3 b R x := by
    funext a
    match a with
    | ⟨0, _⟩ => rfl
    | ⟨1, _⟩ => rfl
    | ⟨2, _⟩ => rfl
  rw [e]
  exact val_main_v12_apply x0 x1 x2 x4 _

theorem hid_scale (b : Fin 2) (R : Fin 16384) (d : Fin 1024) :
    val_main_v19 (F := Ideal) x0 x1 x2 x4 (idx_main_v20 (ix3 b R d))
      = Ideal.rsqrt (Ideal.div (val_main_v14 (F := Ideal) x0 x1 x2 x4 (idx_main_v20 (ix3 b R d))) (Ideal.ofBits .f32 0x44800000#32) + Ideal.ofBits .f32 0x358637BD#32) := by
  rw [val_main_v19_apply, val_main_v18_apply, val_main_v16_apply, val_main_v15_apply, val_main_v17_apply]
  rfl

theorem hid_gain (b : Fin 2) (R : Fin 16384) (d : Fin 1024) :
    val_main_v23 (F := Ideal) x5 (ix3 b R d) = x5 (ix2 0 d) := by
  refine (val_main_v23_apply x5 _).trans ((val_main_v22_apply x5 _).trans ((val_main_v11_apply x5 _).trans (congrArg x5 ?_)))
  funext a
  match a with
  | ⟨0, _⟩ => rfl
  | ⟨1, _⟩ => exact Fin.ext (show d.val % 1024 = d.val from Nat.mod_eq_of_lt d.isLt)

theorem hid_apply (b : Fin 2) (R : Fin 16384) (d : Fin 1024) :
    val_main_v24 (F := Ideal) x0 x1 x2 x4 x5 (ix3 b R d)
      = rmsD (fun x => val_main_v10 (F := Ideal) x0 x1 x2 x4 (ix3 b R x)) (fun x => x5 (ix2 0 x)) d := by
  rw [val_main_v24_apply, val_main_v21_apply, val_main_v20_apply, hid_scale, hid_mean, hid_gain, bits_zero, zero_add]
  rfl

theorem emb0_mean (b : Fin 2) (R : Fin 16384) (d : Fin 1024) :
    val_main_v67 (F := Ideal) x3 x10 (idx_main_v73 (ix3 b R d))
      = Ideal.ofBits .f32 0x00000000#32 + ∑ x, val_main_v63 (F := Ideal) x3 x10 (ix3 b R x) * val_main_v63 (F := Ideal) x3 x10 (ix3 b R x) := by
  refine (val_main_v67_apply x3 x10 _).trans ((val_main_v66_apply x3 x10 _).trans ?_)
  refine congrArg₂ (· + ·) rfl (Finset.sum_congr rfl fun x _ => ?_)
  have e : idx_main_v66 (idx_main_v67 (idx_main_v73 (ix3 b R d))) x = ix3 b R x := by
    funext a
    match a with
    | ⟨0, _⟩ => rfl
    | ⟨1, _⟩ => rfl
    | ⟨2, _⟩ => rfl
  rw [e]
  exact val_main_v65_apply x3 x10 _

theorem emb0_scale (b : Fin 2) (R : Fin 16384) (d : Fin 1024) :
    val_main_v72 (F := Ideal) x3 x10 (idx_main_v73 (ix3 b R d))
      = Ideal.rsqrt (Ideal.div (val_main_v67 (F := Ideal) x3 x10 (idx_main_v73 (ix3 b R d))) (Ideal.ofBits .f32 0x44800000#32) + Ideal.ofBits .f32 0x358637BD#32) := by
  rw [val_main_v72_apply, val_main_v71_apply, val_main_v69_apply, val_main_v68_apply, val_main_v70_apply]
  rfl

theorem emb0_gain (b : Fin 2) (R : Fin 16384) (d : Fin 1024) :
    val_main_v76 (F := Ideal) x11 (ix3 b R d) = x11 (ix2 0 d) := by
  refine (val_main_v76_apply x11 _).trans ((val_main_v75_apply x11 _).trans ((val_main_v64_apply x11 _).trans (congrArg x11 ?_)))
  funext a
  match a with
  | ⟨0, _⟩ => rfl
  | ⟨1, _⟩ => exact Fin.ext (show d.val % 1024 = d.val from Nat.mod_eq_of_lt d.isLt)

theorem emb0_apply (b : Fin 2) (R : Fin 16384) (d : Fin 1024) :
    val_main_v77 (F := Ideal) x3 x10 x11 (ix3 b R d)
      = rmsD (fun x => val_main_v63 (F := Ideal) x3 x10 (ix3 b R x)) (fun x => x11 (ix2 0 x)) d := by
  rw [val_main_v77_apply, val_main_v74_apply, val_main_v73_apply, emb0_scale, emb0_mean, emb0_gain, bits_zero, zero_add]
  rfl

theorem emb_apply (b : Fin 2) (R : Fin 16384) (d : Fin 1024) :
    val_main_v77 (F := Ideal) x3 x10 x11 (ix3 b R d) = embRow x3 x10 x11 b R d := by
  rw [emb0_apply]
  unfold embRow
  refine congrArg (fun v => rmsD v _ d) (funext fun d => ?_)
  refine (val_main_v63_apply x3 x10 _).trans (Finset.sum_congr rfl fun k _ => congrArg₂ (· * ·) (congrArg x3 ?_) ((val_main_v3_apply x10 _).trans (congrArg x10 ?_)))
  · funext a
    match a with
    | ⟨0, _⟩ => rfl
    | ⟨1, _⟩ => rfl
    | ⟨2, _⟩ => rfl
  · funext a
    match a with
    | ⟨0, _⟩ => rfl
    | ⟨1, _⟩ => rfl

theorem hidden_apply (b : Fin 2) (R : Fin 16384) (d : Fin 1024) :
    val_main_v24 (F := Ideal) x0 x1 x2 x4 x5 (ix3 b R d) = hidRow x0 x1 x2 x4 x5 b R d := by
  rw [hid_apply]
  unfold hidRow
  exact congrArg (fun v => rmsD v _ d) (funext fun d => mid_apply x0 x1 x2 x4 b R d)

theorem up_apply (b : Fin 2) (n : Fin 16386) (q : Fin 5632) :
    val_main_v26 (F := Ideal) x0 x1 x2 x4 x5 x6 (ix3 b n q) = upRow x0 x1 x2 x4 x5 x6 b n.val q := by
  unfold val_main_v26
  rw [pad_apply]
  unfold upRow
  split_ifs with h
  · refine (val_main_v25_apply x0 x1 x2 x4 x5 x6 _).trans (Finset.sum_congr rfl fun k _ => congrArg₂ (· * ·) ?_ ((val_main_v1_apply x6 _).trans (congrArg x6 ?_)))
    · refine Eq.trans (congrArg _ ?_) (hidden_apply x0 x1 x2 x4 x5 b ⟨n.val - 1, by omega⟩ k)
      funext a
      match a with
      | ⟨0, _⟩ => rfl
      | ⟨1, _⟩ => rfl
      | ⟨2, _⟩ => rfl
    · funext a
      match a with
      | ⟨0, _⟩ => rfl
      | ⟨1, _⟩ => rfl
  · exact pad_zero _

theorem row0_apply (b : Fin 2) (R : Fin 16384) (q : Fin 5632) :
    val_main_v27 (F := Ideal) x0 x1 x2 x4 x5 x6 (ix3 b R q) = upRow x0 x1 x2 x4 x5 x6 b R.val q := by
  refine (val_main_v27_apply x0 x1 x2 x4 x5 x6 _).trans (Eq.trans (congrArg _ ?_) (up_apply x0 x1 x2 x4 x5 x6 b ⟨R.val, by omega⟩ q))
  funext a
  match a with
  | ⟨0, _⟩ => rfl
  | ⟨1, _⟩ => rfl
  | ⟨2, _⟩ => rfl

theorem tap0_apply (b : Fin 2) (R : Fin 16384) (q : Fin 5632) :
    val_main_v31 (F := Ideal) x7 (ix3 b R q) = x7 (ix2 0 q) := by
  refine (val_main_v31_apply x7 _).trans ((val_main_v30_apply x7 _).trans ((val_main_v29_apply x7 _).trans ((val_main_v28_apply x7 _).trans (congrArg x7 ?_))))
  funext a
  match a with
  | ⟨0, _⟩ => rfl
  | ⟨1, _⟩ => exact Fin.ext (show q.val % 5632 = q.val from Nat.mod_eq_of_lt q.isLt)

theorem row1_apply (b : Fin 2) (R : Fin 16384) (q : Fin 5632) :
    val_main_v33 (F := Ideal) x0 x1 x2 x4 x5 x6 (ix3 b R q) = upRow x0 x1 x2 x4 x5 x6 b (1 + R.val) q := by
  refine (val_main_v33_apply x0 x1 x2 x4 x5 x6 _).trans (Eq.trans (congrArg _ ?_) (up_apply x0 x1 x2 x4 x5 x6 b ⟨(1 + R.val), by omega⟩ q))
  funext a
  match a with
  | ⟨0, _⟩ => rfl
  | ⟨1, _⟩ => rfl
  | ⟨2, _⟩ => rfl

theorem tap1_apply (b : Fin 2) (R : Fin 16384) (q : Fin 5632) :
    val_main_v37 (F := Ideal) x7 (ix3 b R q) = x7 (ix2 1 q) := by
  refine (val_main_v37_apply x7 _).trans ((val_main_v36_apply x7 _).trans ((val_main_v35_apply x7 _).trans ((val_main_v34_apply x7 _).trans (congrArg x7 ?_))))
  funext a
  match a with
  | ⟨0, _⟩ => rfl
  | ⟨1, _⟩ => exact Fin.ext (show q.val % 5632 = q.val from Nat.mod_eq_of_lt q.isLt)

theorem row2_apply (b : Fin 2) (R : Fin 16384) (q : Fin 5632) :
    val_main_v40 (F := Ideal) x0 x1 x2 x4 x5 x6 (ix3 b R q) = upRow x0 x1 x2 x4 x5 x6 b (2 + R.val) q := by
  refine (val_main_v40_apply x0 x1 x2 x4 x5 x6 _).trans (Eq.trans (congrArg _ ?_) (up_apply x0 x1 x2 x4 x5 x6 b ⟨(2 + R.val), by omega⟩ q))
  funext a
  match a with
  | ⟨0, _⟩ => rfl
  | ⟨1, _⟩ => rfl
  | ⟨2, _⟩ => rfl

theorem tap2_apply (b : Fin 2) (R : Fin 16384) (q : Fin 5632) :
    val_main_v44 (F := Ideal) x7 (ix3 b R q) = x7 (ix2 2 q) := by
  refine (val_main_v44_apply x7 _).trans ((val_main_v43_apply x7 _).trans ((val_main_v42_apply x7 _).trans ((val_main_v41_apply x7 _).trans (congrArg x7 ?_))))
  funext a
  match a with
  | ⟨0, _⟩ => rfl
  | ⟨1, _⟩ => exact Fin.ext (show q.val % 5632 = q.val from Nat.mod_eq_of_lt q.isLt)

theorem bias_apply (b : Fin 2) (R : Fin 16384) (q : Fin 5632) :
    val_main_v49 (F := Ideal) x8 (ix3 b R q) = x8 (ix2 0 q) := by
  refine (val_main_v49_apply x8 _).trans ((val_main_v48_apply x8 _).trans ((val_main_v47_apply x8 _).trans (congrArg x8 ?_)))
  funext a
  match a with
  | ⟨0, _⟩ => rfl
  | ⟨1, _⟩ => exact Fin.ext (show q.val % 5632 = q.val from Nat.mod_eq_of_lt q.isLt)

theorem gbias_apply (b : Fin 2) (R : Fin 16384) (q : Fin 1024) :
    val_main_v81 (F := Ideal) x13 (ix3 b R q) = x13 (ix2 0 q) := by
  refine (val_main_v81_apply x13 _).trans ((val_main_v80_apply x13 _).trans ((val_main_v79_apply x13 _).trans (congrArg x13 ?_)))
  funext a
  match a with
  | ⟨0, _⟩ => rfl
  | ⟨1, _⟩ => exact Fin.ext (show q.val % 1024 = q.val from Nat.mod_eq_of_lt q.isLt)

/-- The convolved row. -/
def convRow (b : Fin 2) (R : Fin 16384) (q : Fin 5632) : EReal :=
  tap3 (fun k q => x7 (ix2 k q)) (fun q => x8 (ix2 0 q)) (upRow x0 x1 x2 x4 x5 x6 b R.val q) (upRow x0 x1 x2 x4 x5 x6 b (1 + R.val) q) (upRow x0 x1 x2 x4 x5 x6 b (2 + R.val) q) q

theorem conv_apply (b : Fin 2) (R : Fin 16384) (q : Fin 5632) :
    val_main_v50 (F := Ideal) x0 x1 x2 x4 x5 x6 x7 x8 (ix3 b R q) = convRow x0 x1 x2 x4 x5 x6 x7 x8 b R q := by
  rw [val_main_v50_apply, val_main_v46_apply, val_main_v39_apply, val_main_v32_apply, val_main_v38_apply, val_main_v45_apply,
    row0_apply, row1_apply, row2_apply, tap0_apply, tap1_apply, tap2_apply, bias_apply]
  rfl

theorem glu_apply (b : Fin 2) (R : Fin 16384) (q : Fin 2816) :
    val_main_v60 (F := Ideal) x0 x1 x2 x4 x5 x6 x7 x8 (ix3 b R q) = glu (convRow x0 x1 x2 x4 x5 x6 x7 x8 b R) q := by
  have eg : val_main_v51 (F := Ideal) x0 x1 x2 x4 x5 x6 x7 x8 (ix3 b R q) = convRow x0 x1 x2 x4 x5 x6 x7 x8 b R ⟨q.val, by omega⟩ := by
    refine (val_main_v51_apply x0 x1 x2 x4 x5 x6 x7 x8 _).trans (Eq.trans (congrArg _ ?_) (conv_apply x0 x1 x2 x4 x5 x6 x7 x8 b R ⟨q.val, by omega⟩))
    funext a
    match a with
    | ⟨0, _⟩ => rfl
    | ⟨1, _⟩ => rfl
    | ⟨2, _⟩ => rfl
  have eu : val_main_v52 (F := Ideal) x0 x1 x2 x4 x5 x6 x7 x8 (ix3 b R q) = convRow x0 x1 x2 x4 x5 x6 x7 x8 b R ⟨2816 + q.val, by omega⟩ := by
    refine (val_main_v52_apply x0 x1 x2 x4 x5 x6 x7 x8 _).trans (Eq.trans (congrArg _ ?_) (conv_apply x0 x1 x2 x4 x5 x6 x7 x8 b R ⟨2816 + q.val, by omega⟩))
    funext a
    match a with
    | ⟨0, _⟩ => rfl
    | ⟨1, _⟩ => rfl
    | ⟨2, _⟩ => rfl
  rw [val_main_v60_apply, val_main_v59_apply, val_main_v58_apply, val_main_v57_apply, val_main_v56_apply, val_main_v55_apply, val_main_v54_apply, val_main_v53_apply,
    eg, eu, val_main_cst_2_apply, val_main_cst_3_apply]
  unfold glu
  exact congrArg (fun z => convRow x0 x1 x2 x4 x5 x6 x7 x8 b R ⟨q.val, by omega⟩ * z * convRow x0 x1 x2 x4 x5 x6 x7 x8 b R ⟨2816 + q.val, by omega⟩) (logistic_eq _)

/-- The row after the feed-forward. -/
def ffRow (b : Fin 2) (R : Fin 16384) (d : Fin 1024) : EReal :=
  resRow x0 x1 x2 x4 b R d + lin (glu (convRow x0 x1 x2 x4 x5 x6 x7 x8 b R)) (fun q d => x9 (ix2 q d)) d

theorem ff_apply (b : Fin 2) (R : Fin 16384) (d : Fin 1024) :
    val_main_v62 (F := Ideal) x0 x1 x2 x4 x5 x6 x7 x8 x9 (ix3 b R d) = ffRow x0 x1 x2 x4 x5 x6 x7 x8 x9 b R d := by
  refine (val_main_v62_apply x0 x1 x2 x4 x5 x6 x7 x8 x9 _).trans (congrArg₂ (· + ·) (mid_apply x0 x1 x2 x4 b R d) ?_)
  refine (val_main_v61_apply x0 x1 x2 x4 x5 x6 x7 x8 x9 _).trans (Finset.sum_congr rfl fun k _ => congrArg₂ (· * ·) ?_ ((val_main_v2_apply x9 _).trans (congrArg x9 ?_)))
  · refine Eq.trans (congrArg _ ?_) (glu_apply x0 x1 x2 x4 x5 x6 x7 x8 b R k)
    funext a
    match a with
    | ⟨0, _⟩ => rfl
    | ⟨1, _⟩ => rfl
    | ⟨2, _⟩ => rfl
  · funext a
    match a with
    | ⟨0, _⟩ => rfl
    | ⟨1, _⟩ => rfl

theorem gate_apply (b : Fin 2) (R : Fin 16384) (d : Fin 1024) :
    val_main_v82 (F := Ideal) x0 x1 x2 x4 x5 x6 x7 x8 x9 x12 x13 (ix3 b R d) = lin (ffRow x0 x1 x2 x4 x5 x6 x7 x8 x9 b R) (fun k d => x12 (ix2 k d)) d + x13 (ix2 0 d) := by
  refine (val_main_v82_apply x0 x1 x2 x4 x5 x6 x7 x8 x9 x12 x13 _).trans (congrArg₂ (· + ·) ?_ (gbias_apply x13 b R d))
  refine (val_main_v78_apply x0 x1 x2 x4 x5 x6 x7 x8 x9 x12 _).trans (Finset.sum_congr rfl fun k _ => congrArg₂ (· * ·) ?_ ((val_main_v4_apply x12 _).trans (congrArg x12 ?_)))
  · refine Eq.trans (congrArg _ ?_) (ff_apply x0 x1 x2 x4 x5 x6 x7 x8 x9 b R k)
    funext a
    match a with
    | ⟨0, _⟩ => rfl
    | ⟨1, _⟩ => rfl
    | ⟨2, _⟩ => rfl
  · funext a
    match a with
    | ⟨0, _⟩ => rfl
    | ⟨1, _⟩ => rfl

/-- THE REFERENCE at an element. -/
theorem out_apply (b : Fin 2) (R : Fin 16384) (d : Fin 1024) :
    val_main_v90 (F := Ideal) x0 x1 x2 x3 x4 x5 x6 x7 x8 x9 x10 x11 x12 x13 (ix3 b R d) = outRow x0 x1 x2 x3 x4 x5 x6 x7 x8 x9 x10 x11 x12 x13 b R d := by
  rw [val_main_v90_apply, val_main_v89_apply, val_main_v88_apply, val_main_v87_apply, val_main_v86_apply, val_main_v85_apply, val_main_v84_apply, val_main_v83_apply,
    ff_apply, gate_apply, emb_apply, val_main_cst_7_apply, val_main_cst_8_apply]
  exact congrArg (fun z => ffRow x0 x1 x2 x4 x5 x6 x7 x8 x9 b R d + z * embRow x3 x10 x11 b R d) (logistic_eq _)

end

end Cert.Ffn.Ref
end
-- ==== Proof.Ffn.Claim.lean ====
module

public import proofs.«01_k».proof.Proof.Ffn.Array
public import proofs.«01_k».proof.Proof.Ffn.Ref
public import proofs.«01_k».proof.Defs
public import proofs.«01_k».proof.Proof.Gen.Reference2Ideal.Run

/-! The value claim of the feed-forward call. -/

@[expose] public section

set_option maxRecDepth 16384

noncomputable section

namespace Cert.Ffn

open Idealize.ShloMosaic Idealize.ShloMosaic.TcCoe Idealize.SL.Sem Cert.Reference2Ideal.Read

/-- The reference's run ends with its result at the value that `Ref` reads. -/
theorem ref_result (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ fun r => ∀ c : Dev Cert.Reference2Ideal.nD,
      r.2.mem ((c.tc : Thread Cert.Reference2Ideal.nD Cert.Reference2Ideal.τ).loc Cert.Reference2Ideal.main_v90)
        = val_main_v90 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13) :=
  (θ_run Cert.Reference2Ideal.defs _ _).mono (fun r h c => ⟨(h c).1.trans (val_main_v90_eq (F := Ideal) m c), (h c).2⟩)
    (Cert.Reference2Ideal.Value.run (F := Ideal) m g)

theorem algebraic : @Cert.algebraic_Kernel2Ideal_Reference2Ideal Cert.Kernel2Ideal.Gen.facts Cert.Reference2Ideal.Gen.facts := by
  intro m g m' g' _ hargs
  refine ⟨fun c => ffnOut (B := 2) (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)) (m (c.tc.loc Cert.Kernel2Ideal.main_arg7)) (m (c.tc.loc Cert.Kernel2Ideal.main_arg8)) (m (c.tc.loc Cert.Kernel2Ideal.main_arg9)) (m (c.tc.loc Cert.Kernel2Ideal.main_arg10)) (m (c.tc.loc Cert.Kernel2Ideal.main_arg11)) (m (c.tc.loc Cert.Kernel2Ideal.main_arg12)) (m (c.tc.loc Cert.Kernel2Ideal.main_arg13)), ?_, ?_⟩
  · exact (θ_run Cert.Kernel2Ideal.defs _ _).mono (fun r h c => ⟨(h c).1.trans (final m c), (h c).2⟩) (Cert.Kernel2Ideal.Value.run_blocks (F := Ideal) m g)
  · refine (θ_run Cert.Reference2Ideal.defs _ _).mono (fun r h c => ⟨(h c).1.trans ?_, (h c).2⟩) (ref_result m' g')
    obtain ⟨e0, e1, e2, e3, e4, e5, e6, e7, e8, e9, e10, e11, e12, e13⟩ := hargs c
    rw [e0, e1, e2, e3, e4, e5, e6, e7, e8, e9, e10, e11, e12, e13]
    refine funext fun i => ?_
    have hi := eq_ix3 (f := i)
    rw [hi]
    exact Ref.out_apply _ _ _ _ _ _ _ _ _ _ _ _ _ _ (i 0) (i 1) (i 2)

end Cert.Ffn

end
-- ==== Proof.Ffn.One.Pieces.lean ====
/- At the batch of one the feed-forward kernel's body stores the same piece, the tile. -/
module

public import proofs.«01_k».proof.Proof.Ffn.Block
public import proofs.«01_k».proof.Proof.Gen.Kernel3Ideal.Frame

@[expose] public section

set_option maxRecDepth 16384

noncomputable section

namespace Cert.Ffn.One

open Cert.Kernel3Ideal Cert.Kernel3Ideal.Gen Idealize.ShloMosaic Idealize.ShloMosaic.TcCoe Idealize.SL.Sem

variable {F : FTy → Type} [FloatOps F]

section
variable (c : Dev nD) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x4x512x128 .f32) (harg8 : arg8.IsWhole) (arg9 : Memref sig .tc .vmem S1x4x16x128 .f32) (harg9 : arg9.IsWhole) (arg10 : Memref sig .tc .vmem S1x4x16x128 .f32) (harg10 : arg10.IsWhole) (arg11 : Memref sig .tc .vmem S1x512x256 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1024x5632 .bf16) (harg14 : arg14.IsWhole) (arg15 : Memref sig .tc .vmem S3x5632 .f32) (harg15 : arg15.IsWhole) (arg16 : Memref sig .tc .vmem S1x5632 .f32) (harg16 : arg16.IsWhole) (arg17 : Memref sig .tc .vmem S2816x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1x512x1024 .f32) (harg22 : arg22.IsWhole) (arg23 : Memref sig .tc .vmem S4x2x2x528x128 .f32) (harg23 : arg23.IsWhole) (arg24 : Memref sig .tc .vmem S8x512x128 .f32) (harg24 : arg24.IsWhole)
    (x0 : Vec F S1x512x1024 .f32) (x1 : Vec F S1x16x1024 .f32) (x2 : Vec F S1x16x1024 .f32) (x3 : Vec F S1x512x512 .bf16) (x4 : Vec F S1x16x512 .bf16) (x5 : Vec F S1x16x512 .bf16) (x6 : Vec F S1x4x512x128 .f32) (x7 : Vec F S1x4x16x128 .f32) (x8 : Vec F S1x4x16x128 .f32) (x9 : Vec F S1x512x256 .f32) (x10 : Vec F S1024x1024 .bf16) (x11 : Vec F S1x1024 .f32) (x12 : Vec F S1024x5632 .bf16) (x13 : Vec F S3x5632 .f32) (x14 : Vec F S1x5632 .f32) (x15 : Vec F S2816x1024 .bf16) (x16 : Vec F S256x1024 .bf16) (x17 : Vec F S1x1024 .f32) (x18 : Vec F S1024x1024 .bf16) (x19 : Vec F S1x1024 .f32)

set_option maxHeartbeats 4000000 in
/-- The body's one store. -/
theorem pieces :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19).1
      = [⟨Rect.unit ![0, 0, 0] ![1, 512, 1024] inb_S1x512x1024_S1x512x1024_0_0_0, tile (i 1) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 arg24 x0 x1 x2 x3 x4 x5 x6 x7 x8 x9 x10 x11 x12 x13 x14 x15 x16 x17 x18 x19⟩] := rfl

end

end Cert.Ffn.One

end
-- ==== Proof.Ffn.One.Array.lean ====
/- At the batch of one: the feed-forward kernel's result array after its run, as one function of the argument arrays. -/
module

public import proofs.«01_k».proof.Proof.Ffn.One.Pieces
public import proofs.«01_k».proof.Proof.Ffn.Staged
public import proofs.«01_k».proof.Proof.Gen.Kernel3Ideal.Value
public import Idealize.ShloMosaic.Lib.Pipeline.ValueKit

@[expose] public section

set_option maxRecDepth 16384

noncomputable section

namespace Cert.Ffn.One

open Cert.Kernel3Ideal Cert.Kernel3Ideal.Gen Idealize.ShloMosaic Idealize.ShloMosaic.TcCoe Idealize.SL.Sem

variable (m : (ℓ : Loc nD τ sig) → Buf (Elt Ideal) ℓ)

theorem ix_main : ∀ t : Fin cfg0.N, win0_0.index t = ![(grid0.coords t 0).val, (grid0.coords t 1).val, 0] ∧ win0_3.index t = ![(grid0.coords t 0).val, (grid0.coords t 1).val, 0] ∧ win0_9.index t = ![(grid0.coords t 0).val, (grid0.coords t 1).val, 0] ∧ win0_20.index t = ![(grid0.coords t 0).val, (grid0.coords t 1).val, 0] ∧ win0_6.index t = ![(grid0.coords t 0).val, 0, (grid0.coords t 1).val, 0] :=
  (by decide +kernel : ∀ t : Fin grid0.N, win0_0.index t = ![(grid0.coords t 0).val, (grid0.coords t 1).val, 0] ∧ win0_3.index t = ![(grid0.coords t 0).val, (grid0.coords t 1).val, 0] ∧ win0_9.index t = ![(grid0.coords t 0).val, (grid0.coords t 1).val, 0] ∧ win0_20.index t = ![(grid0.coords t 0).val, (grid0.coords t 1).val, 0] ∧ win0_6.index t = ![(grid0.coords t 0).val, 0, (grid0.coords t 1).val, 0])

theorem ix_prev : ∀ t : Fin cfg0.N, win0_1.index t = ![(grid0.coords t 0).val, 32 * (grid0.coords t 1).val - 1, 0] ∧ win0_4.index t = ![(grid0.coords t 0).val, 32 * (grid0.coords t 1).val - 1, 0] ∧ win0_7.index t = ![(grid0.coords t 0).val, 0, 32 * (grid0.coords t 1).val - 1, 0] :=
  (by decide +kernel : ∀ t : Fin grid0.N, win0_1.index t = ![(grid0.coords t 0).val, 32 * (grid0.coords t 1).val - 1, 0] ∧ win0_4.index t = ![(grid0.coords t 0).val, 32 * (grid0.coords t 1).val - 1, 0] ∧ win0_7.index t = ![(grid0.coords t 0).val, 0, 32 * (grid0.coords t 1).val - 1, 0])

theorem ix_next : ∀ t : Fin cfg0.N, win0_2.index t = ![(grid0.coords t 0).val, min (32 * (grid0.coords t 1).val + 32) 1023, 0] ∧ win0_5.index t = ![(grid0.coords t 0).val, min (32 * (grid0.coords t 1).val + 32) 1023, 0] ∧ win0_8.index t = ![(grid0.coords t 0).val, 0, min (32 * (grid0.coords t 1).val + 32) 1023, 0] :=
  (by decide +kernel : ∀ t : Fin grid0.N, win0_2.index t = ![(grid0.coords t 0).val, min (32 * (grid0.coords t 1).val + 32) 1023, 0] ∧ win0_5.index t = ![(grid0.coords t 0).val, min (32 * (grid0.coords t 1).val + 32) 1023, 0] ∧ win0_8.index t = ![(grid0.coords t 0).val, 0, min (32 * (grid0.coords t 1).val + 32) 1023, 0])

theorem ix_whole : ∀ t : Fin cfg0.N, win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] :=
  (by decide +kernel : ∀ t : Fin grid0.N, win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0])

theorem read_0 (c : Dev nD) (t : Fin cfg0.N) (a : Fin 512) (l : Fin 1024) : iblk m c 0 t (ix3 0 a l)
    = m ((c : Thread nD τ).loc main_arg0) (ix3 (grid0.coords t 0) ⟨512 * (grid0.coords t 1).val + a.val, by have : (grid0.coords t 1).val < 32 := (grid0.coords t 1).isLt; omega⟩ l) := by
  blk_simp [iblk]
  rw [V_main_arg0]
  congr 1
  blk_ext [(ix_main t).1]

theorem read_1 (c : Dev nD) (t : Fin cfg0.N) (a : Fin 16) (l : Fin 1024) : iblk m c 1 t (ix3 0 a l)
    = m ((c : Thread nD τ).loc main_arg0) (ix3 (grid0.coords t 0) ⟨16 * (32 * (grid0.coords t 1).val - 1) + a.val, by have : (grid0.coords t 1).val < 32 := (grid0.coords t 1).isLt; omega⟩ l) := by
  blk_simp [iblk]
  rw [V_main_arg0]
  congr 1
  blk_ext [(ix_prev t).1]

theorem read_2 (c : Dev nD) (t : Fin cfg0.N) (a : Fin 16) (l : Fin 1024) : iblk m c 2 t (ix3 0 a l)
    = m ((c : Thread nD τ).loc main_arg0) (ix3 (grid0.coords t 0) ⟨16 * min (32 * (grid0.coords t 1).val + 32) 1023 + a.val, by have : (grid0.coords t 1).val < 32 := (grid0.coords t 1).isLt; omega⟩ l) := by
  blk_simp [iblk]
  rw [V_main_arg0]
  congr 1
  blk_ext [(ix_next t).1]

theorem read_3 (c : Dev nD) (t : Fin cfg0.N) (a : Fin 512) (l : Fin 512) : iblk m c 3 t (ix3 0 a l)
    = m ((c : Thread nD τ).loc main_arg1) (ix3 (grid0.coords t 0) ⟨512 * (grid0.coords t 1).val + a.val, by have : (grid0.coords t 1).val < 32 := (grid0.coords t 1).isLt; omega⟩ l) := by
  blk_simp [iblk]
  rw [V_main_arg1]
  congr 1
  blk_ext [(ix_main t).2.1]

theorem read_4 (c : Dev nD) (t : Fin cfg0.N) (a : Fin 16) (l : Fin 512) : iblk m c 4 t (ix3 0 a l)
    = m ((c : Thread nD τ).loc main_arg1) (ix3 (grid0.coords t 0) ⟨16 * (32 * (grid0.coords t 1).val - 1) + a.val, by have : (grid0.coords t 1).val < 32 := (grid0.coords t 1).isLt; omega⟩ l) := by
  blk_simp [iblk]
  rw [V_main_arg1]
  congr 1
  blk_ext [(ix_prev t).2.1]

theorem read_5 (c : Dev nD) (t : Fin cfg0.N) (a : Fin 16) (l : Fin 512) : iblk m c 5 t (ix3 0 a l)
    = m ((c : Thread nD τ).loc main_arg1) (ix3 (grid0.coords t 0) ⟨16 * min (32 * (grid0.coords t 1).val + 32) 1023 + a.val, by have : (grid0.coords t 1).val < 32 := (grid0.coords t 1).isLt; omega⟩ l) := by
  blk_simp [iblk]
  rw [V_main_arg1]
  congr 1
  blk_ext [(ix_next t).2.1]

theorem read_6 (c : Dev nD) (t : Fin cfg0.N) (s : Fin 4) (a : Fin 512) (l : Fin 128) : iblk m c 6 t (ix4 0 s a l)
    = m ((c : Thread nD τ).loc main_arg2) (ix4 (grid0.coords t 0) s ⟨512 * (grid0.coords t 1).val + a.val, by have : (grid0.coords t 1).val < 32 := (grid0.coords t 1).isLt; omega⟩ l) := by
  blk_simp [iblk]
  rw [V_main_arg2]
  congr 1
  blk_ext [(ix_main t).2.2.2.2]

theorem read_7 (c : Dev nD) (t : Fin cfg0.N) (s : Fin 4) (a : Fin 16) (l : Fin 128) : iblk m c 7 t (ix4 0 s a l)
    = m ((c : Thread nD τ).loc main_arg2) (ix4 (grid0.coords t 0) s ⟨16 * (32 * (grid0.coords t 1).val - 1) + a.val, by have : (grid0.coords t 1).val < 32 := (grid0.coords t 1).isLt; omega⟩ l) := by
  blk_simp [iblk]
  rw [V_main_arg2]
  congr 1
  blk_ext [(ix_prev t).2.2]

theorem read_8 (c : Dev nD) (t : Fin cfg0.N) (s : Fin 4) (a : Fin 16) (l : Fin 128) : iblk m c 8 t (ix4 0 s a l)
    = m ((c : Thread nD τ).loc main_arg2) (ix4 (grid0.coords t 0) s ⟨16 * min (32 * (grid0.coords t 1).val + 32) 1023 + a.val, by have : (grid0.coords t 1).val < 32 := (grid0.coords t 1).isLt; omega⟩ l) := by
  blk_simp [iblk]
  rw [V_main_arg2]
  congr 1
  blk_ext [(ix_next t).2.2]

theorem read_9 (c : Dev nD) (t : Fin cfg0.N) (a : Fin 512) (l : Fin 256) : iblk m c 9 t (ix3 0 a l)
    = m ((c : Thread nD τ).loc main_arg3) (ix3 (grid0.coords t 0) ⟨512 * (grid0.coords t 1).val + a.val, by have : (grid0.coords t 1).val < 32 := (grid0.coords t 1).isLt; omega⟩ l) := by
  blk_simp [iblk]
  rw [V_main_arg3]
  congr 1
  blk_ext [(ix_main t).2.2.1]

theorem read_10 (c : Dev nD) (t : Fin cfg0.N) (a : Fin 1024) (l : Fin 1024) : iblk m c 10 t (ix2 a l) = m ((c : Thread nD τ).loc main_arg4) (ix2 a l) := by
  blk_simp [iblk]
  rw [V_main_arg4]
  congr 1
  blk_ext [(ix_whole t).1]

theorem read_11 (c : Dev nD) (t : Fin cfg0.N) (a : Fin 1) (l : Fin 1024) : iblk m c 11 t (ix2 a l) = m ((c : Thread nD τ).loc main_arg5) (ix2 a l) := by
  blk_simp [iblk]
  rw [V_main_arg5]
  congr 1
  blk_ext [(ix_whole t).2.1]

theorem read_12 (c : Dev nD) (t : Fin cfg0.N) (a : Fin 1024) (l : Fin 5632) : iblk m c 12 t (ix2 a l) = m ((c : Thread nD τ).loc main_arg6) (ix2 a l) := by
  blk_simp [iblk]
  rw [V_main_arg6]
  congr 1
  blk_ext [(ix_whole t).2.2.1]

theorem read_13 (c : Dev nD) (t : Fin cfg0.N) (a : Fin 3) (l : Fin 5632) : iblk m c 13 t (ix2 a l) = m ((c : Thread nD τ).loc main_arg7) (ix2 a l) := by
  blk_simp [iblk]
  rw [V_main_arg7]
  congr 1
  blk_ext [(ix_whole t).2.2.2.1]

theorem read_14 (c : Dev nD) (t : Fin cfg0.N) (a : Fin 1) (l : Fin 5632) : iblk m c 14 t (ix2 a l) = m ((c : Thread nD τ).loc main_arg8) (ix2 a l) := by
  blk_simp [iblk]
  rw [V_main_arg8]
  congr 1
  blk_ext [(ix_whole t).2.2.2.2.1]

theorem read_15 (c : Dev nD) (t : Fin cfg0.N) (a : Fin 2816) (l : Fin 1024) : iblk m c 15 t (ix2 a l) = m ((c : Thread nD τ).loc main_arg9) (ix2 a l) := by
  blk_simp [iblk]
  rw [V_main_arg9]
  congr 1
  blk_ext [(ix_whole t).2.2.2.2.2.1]

theorem read_16 (c : Dev nD) (t : Fin cfg0.N) (a : Fin 256) (l : Fin 1024) : iblk m c 16 t (ix2 a l) = m ((c : Thread nD τ).loc main_arg10) (ix2 a l) := by
  blk_simp [iblk]
  rw [V_main_arg10]
  congr 1
  blk_ext [(ix_whole t).2.2.2.2.2.2.1]

theorem read_17 (c : Dev nD) (t : Fin cfg0.N) (a : Fin 1) (l : Fin 1024) : iblk m c 17 t (ix2 a l) = m ((c : Thread nD τ).loc main_arg11) (ix2 a l) := by
  blk_simp [iblk]
  rw [V_main_arg11]
  congr 1
  blk_ext [(ix_whole t).2.2.2.2.2.2.2.1]

theorem read_18 (c : Dev nD) (t : Fin cfg0.N) (a : Fin 1024) (l : Fin 1024) : iblk m c 18 t (ix2 a l) = m ((c : Thread nD τ).loc main_arg12) (ix2 a l) := by
  blk_simp [iblk]
  rw [V_main_arg12]
  congr 1
  blk_ext [(ix_whole t).2.2.2.2.2.2.2.2.1]

theorem read_19 (c : Dev nD) (t : Fin cfg0.N) (a : Fin 1) (l : Fin 1024) : iblk m c 19 t (ix2 a l) = m ((c : Thread nD τ).loc main_arg13) (ix2 a l) := by
  blk_simp [iblk]
  rw [V_main_arg13]
  congr 1
  blk_ext [(ix_whole t).2.2.2.2.2.2.2.2.2]

/-- The staged output block in terms of the staged input blocks. -/
theorem out_apply (c : Dev nD) (t : Fin cfg0.N) (y : S1x512x1024.Idx) :
    outsAt0 m c t y = tile (grid0.coords t 1) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y := by
  unfold outsAt0 out0_A_20
  rw [View.read_writes_eq_canon VO0_20 _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (fun y : S1x512x1024.Idx => tile (grid0.coords t 1) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y) _ ?_ y
    (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  rw [pieces]
  intro p hp
  simp only [List.mem_cons, List.not_mem_nil, or_false] at hp
  subst hp
  intro x
  refine congrArg (tile (grid0.coords t 1) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (funext fun a => Fin.ext ?_)
  rw [Rect.emb_apply]
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega

theorem staged (c : Dev nD) (t : Fin cfg0.N) : Staged (B := 1) (grid0.coords t 0) (grid0.coords t 1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  ⟨read_0 m c t, read_1 m c t, read_2 m c t, read_3 m c t, read_4 m c t, read_5 m c t, read_6 m c t, read_7 m c t, read_8 m c t, read_9 m c t, read_10 m c t, read_11 m c t, read_12 m c t, read_13 m c t, read_14 m c t, read_15 m c t, read_16 m c t, read_17 m c t, read_18 m c t, read_19 m c t⟩

theorem block_value (c : Dev nD) (t : Fin cfg0.N) (r : Fin 512) (d : Fin 1024) : outsAt0 m c t (ix3 0 r d)
    = ffnOut (B := 1) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
        (ix3 (grid0.coords t 0) ⟨512 * (grid0.coords t 1).val + r.val, by have : (grid0.coords t 1).val < 32 := (grid0.coords t 1).isLt; omega⟩ d) :=
  (out_apply m c t _).trans ((tile_apply (grid0.coords t 1) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r d).trans ((staged m c t).row_value r d))

/-- THE ARRAY the kernel leaves. -/
theorem final (c : Dev nD) : (dats m 0 c).arrAt 20 cfg0.N = ffnOut (B := 1) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 20 _ (by decide +kernel) fun t hf y => ?_
  blk_simp
  rw [after0_20]
  have h0 : y = ix3 (0 : Fin 1) (y 1 : Fin 512) (y 2 : Fin 1024) :=
    (eq_ix3 (f := y)).trans (congrArg (fun z : Fin 1 => ix3 z (y 1 : Fin 512) (y 2 : Fin 1024)) (Subsingleton.elim (α := Fin 1) _ _))
  refine (congrArg _ h0).trans ((block_value m c t (y 1) (y 2)).trans (congrArg _ ?_))
  blk_ext [(ix_main t).2.2.2.1]

end Cert.Ffn.One

end
-- ==== Proof.Ffn.One.Ref.lean ====
/- At the batch of one: the feed-forward reference, read at an element. -/
module

public import proofs.«01_k».proof.Proof.Ffn.Spec
public import proofs.«01_k».proof.Proof.Gen.Reference3Ideal.Read

@[expose] public section

set_option maxRecDepth 16384

noncomputable section

namespace Cert.Ffn.One.Ref

open Cert.Reference3Ideal Cert.Reference3Ideal.Gen Cert.Reference3Ideal.Read Idealize.ShloMosaic Idealize.ShloMosaic.TcCoe Idealize.SL.Sem

/-- Two arrays side by side. -/
theorem cat_apply (y z : Vec Ideal S1x16384x512 .f32) (R : Fin 16384) (k : Fin 1024) :
    concatenate S1x16384x1024 2 [⟨S1x16384x512, y⟩, ⟨S1x16384x512, z⟩] concatenates_S1x16384x512_S1x16384x512_S1x16384x1024_d2 (ix3 0 R k)
      = if h : k.val < 512 then y (ix3 0 R ⟨k.val, h⟩) else z (ix3 0 R ⟨k.val - 512, by omega⟩) := by
  pointwise

/-- A row of padding before and after. -/
theorem pad_apply (y : Vec Ideal S1x16384x5632 .f32) (z : Vec Ideal S_ .f32) (n : Fin 16386) (q : Fin 5632) :
    pad S1x16386x5632 ![0, 1, 0] ![0, 1, 0] ![0, 0, 0] y z pads_S1x16384x5632_S1x16386x5632_000_110_000 h_S_ (ix3 0 n q)
      = if h : 1 ≤ n.val ∧ n.val ≤ 16384 then y (ix3 0 ⟨n.val - 1, by omega⟩ q) else z ix0 := by
  pointwise
  by_cases h : 1 ≤ n.val ∧ n.val ≤ 16384
  · rw [dif_pos h, dif_pos (by omega)]
  · rw [dif_neg h, dif_neg (by omega)]
    exact congrArg z (funext fun a => a.elim0)

theorem pad_zero (i : S_.Idx) : val_main_call0_v0 (F := Ideal) i = 0 := by
  show (((0#32 : BitVec 32).toInt : ℝ) : EReal) = 0
  simp

section
variable (x0 : (⟨S1x16384x1024, .f32⟩ : BufTy).Contents (Elt Ideal)) (x1 : (⟨S1x16384x512, .bf16⟩ : BufTy).Contents (Elt Ideal)) (x2 : (⟨S1x4x16384x128, .f32⟩ : BufTy).Contents (Elt Ideal)) (x3 : (⟨S1x16384x256, .f32⟩ : BufTy).Contents (Elt Ideal)) (x4 : (⟨S1024x1024, .bf16⟩ : BufTy).Contents (Elt Ideal)) (x5 : (⟨S1x1024, .f32⟩ : BufTy).Contents (Elt Ideal)) (x6 : (⟨S1024x5632, .bf16⟩ : BufTy).Contents (Elt Ideal)) (x7 : (⟨S3x5632, .f32⟩ : BufTy).Contents (Elt Ideal)) (x8 : (⟨S1x5632, .f32⟩ : BufTy).Contents (Elt Ideal)) (x9 : (⟨S2816x1024, .bf16⟩ : BufTy).Contents (Elt Ideal)) (x10 : (⟨S256x1024, .bf16⟩ : BufTy).Contents (Elt Ideal)) (x11 : (⟨S1x1024, .f32⟩ : BufTy).Contents (Elt Ideal)) (x12 : (⟨S1024x1024, .bf16⟩ : BufTy).Contents (Elt Ideal)) (x13 : (⟨S1x1024, .f32⟩ : BufTy).Contents (Elt Ideal))

theorem slabs_apply (R : Fin 16384) (k : Fin 512) :
    val_main_v7 (F := Ideal) x2 (ix3 0 R k) = x2 (ix4 0 ⟨k.val / 128, by omega⟩ R ⟨k.val % 128, by omega⟩) := by
  refine (val_main_v7_apply x2 _).trans ((val_main_v6_apply x2 _).trans (congrArg x2 ?_))
  have hR := R.isLt
  have hk := k.isLt
  funext a
  apply Fin.ext
  match a with
  | ⟨0, _⟩ => rfl
  | ⟨1, _⟩ => show ((0 * 16384 + R.val) * 512 + k.val) / 128 % 4 = k.val / 128; omega
  | ⟨2, _⟩ => show ((0 * 16384 + R.val) * 512 + k.val) / 512 % 16384 = R.val; omega
  | ⟨3, _⟩ => show ((0 * 16384 + R.val) * 512 + k.val) % 128 = k.val % 128; omega

theorem mixed_apply (R : Fin 16384) (k : Fin 1024) :
    val_main_v8 (F := Ideal) x1 x2 (ix3 0 R k) = mix (fun k => x1 (ix3 0 R k)) (fun s l => x2 (ix4 0 s R l)) k := by
  unfold val_main_v8
  rw [cat_apply]
  unfold mix
  split_ifs with h
  · rfl
  · exact slabs_apply x2 R _

theorem mid_apply (R : Fin 16384) (d : Fin 1024) :
    val_main_v10 (F := Ideal) x0 x1 x2 x4 (ix3 0 R d) = resRow x0 x1 x2 x4 0 R d := by
  refine (val_main_v10_apply x0 x1 x2 x4 _).trans (congrArg₂ (· + ·) rfl ?_)
  refine (val_main_v9_apply x1 x2 x4 _).trans (Finset.sum_congr rfl fun k _ => congrArg₂ (· * ·) ?_ ?_)
  · refine Eq.trans (congrArg _ ?_) (mixed_apply x1 x2 R k)
    funext a
    match a with
    | ⟨0, _⟩ => rfl
    | ⟨1, _⟩ => rfl
    | ⟨2, _⟩ => rfl
  · refine (val_main_v0_apply x4 _).trans (congrArg x4 ?_)
    funext a
    match a with
    | ⟨0, _⟩ => rfl
    | ⟨1, _⟩ => rfl

theorem hid_mean (R : Fin 16384) (d : Fin 1024) :
    val_main_v14 (F := Ideal) x0 x1 x2 x4 (idx_main_v20 (ix3 0 R d))
      = Ideal.ofBits .f32 0x00000000#32 + ∑ x, val_main_v10 (F := Ideal) x0 x1 x2 x4 (ix3 0 R x) * val_main_v10 (F := Ideal) x0 x1 x2 x4 (ix3 0 R x) := by
  refine (val_main_v14_apply x0 x1 x2 x4 _).trans ((val_main_v13_apply x0 x1 x2 x4 _).trans ?_)
  refine congrArg₂ (· + ·) rfl (Finset.sum_congr rfl fun x _ => ?_)
  have e : idx_main_v13 (idx_main_v14 (idx_main_v20 (ix3 0 R d))) x = ix3 0 R x := by
    funext a
    match a with
    | ⟨0, _⟩ => rfl
    | ⟨1, _⟩ => rfl
    | ⟨2, _⟩ => rfl
  rw [e]
  exact val_main_v12_apply x0 x1 x2 x4 _

theorem hid_scale (R : Fin 16384) (d : Fin 1024) :
    val_main_v19 (F := Ideal) x0 x1 x2 x4 (idx_main_v20 (ix3 0 R d))
      = Ideal.rsqrt (Ideal.div (val_main_v14 (F := Ideal) x0 x1 x2 x4 (idx_main_v20 (ix3 0 R d))) (Ideal.ofBits .f32 0x44800000#32) + Ideal.ofBits .f32 0x358637BD#32) := by
  rw [val_main_v19_apply, val_main_v18_apply, val_main_v16_apply, val_main_v15_apply, val_main_v17_apply]
  rfl

theorem hid_gain (R : Fin 16384) (d : Fin 1024) :
    val_main_v23 (F := Ideal) x5 (ix3 0 R d) = x5 (ix2 0 d) := by
  refine (val_main_v23_apply x5 _).trans ((val_main_v22_apply x5 _).trans ((val_main_v11_apply x5 _).trans (congrArg x5 ?_)))
  funext a
  match a with
  | ⟨0, _⟩ => rfl
  | ⟨1, _⟩ => exact Fin.ext (show d.val % 1024 = d.val from Nat.mod_eq_of_lt d.isLt)

theorem hid_apply (R : Fin 16384) (d : Fin 1024) :
    val_main_v24 (F := Ideal) x0 x1 x2 x4 x5 (ix3 0 R d)
      = rmsD (fun x => val_main_v10 (F := Ideal) x0 x1 x2 x4 (ix3 0 R x)) (fun x => x5 (ix2 0 x)) d := by
  rw [val_main_v24_apply, val_main_v21_apply, val_main_v20_apply, hid_scale, hid_mean, hid_gain, bits_zero, zero_add]
  rfl

theorem emb0_mean (R : Fin 16384) (d : Fin 1024) :
    val_main_v67 (F := Ideal) x3 x10 (idx_main_v73 (ix3 0 R d))
      = Ideal.ofBits .f32 0x00000000#32 + ∑ x, val_main_v63 (F := Ideal) x3 x10 (ix3 0 R x) * val_main_v63 (F := Ideal) x3 x10 (ix3 0 R x) := by
  refine (val_main_v67_apply x3 x10 _).trans ((val_main_v66_apply x3 x10 _).trans ?_)
  refine congrArg₂ (· + ·) rfl (Finset.sum_congr rfl fun x _ => ?_)
  have e : idx_main_v66 (idx_main_v67 (idx_main_v73 (ix3 0 R d))) x = ix3 0 R x := by
    funext a
    match a with
    | ⟨0, _⟩ => rfl
    | ⟨1, _⟩ => rfl
    | ⟨2, _⟩ => rfl
  rw [e]
  exact val_main_v65_apply x3 x10 _

theorem emb0_scale (R : Fin 16384) (d : Fin 1024) :
    val_main_v72 (F := Ideal) x3 x10 (idx_main_v73 (ix3 0 R d))
      = Ideal.rsqrt (Ideal.div (val_main_v67 (F := Ideal) x3 x10 (idx_main_v73 (ix3 0 R d))) (Ideal.ofBits .f32 0x44800000#32) + Ideal.ofBits .f32 0x358637BD#32) := by
  rw [val_main_v72_apply, val_main_v71_apply, val_main_v69_apply, val_main_v68_apply, val_main_v70_apply]
  rfl

theorem emb0_gain (R : Fin 16384) (d : Fin 1024) :
    val_main_v76 (F := Ideal) x11 (ix3 0 R d) = x11 (ix2 0 d) := by
  refine (val_main_v76_apply x11 _).trans ((val_main_v75_apply x11 _).trans ((val_main_v64_apply x11 _).trans (congrArg x11 ?_)))
  funext a
  match a with
  | ⟨0, _⟩ => rfl
  | ⟨1, _⟩ => exact Fin.ext (show d.val % 1024 = d.val from Nat.mod_eq_of_lt d.isLt)

theorem emb0_apply (R : Fin 16384) (d : Fin 1024) :
    val_main_v77 (F := Ideal) x3 x10 x11 (ix3 0 R d)
      = rmsD (fun x => val_main_v63 (F := Ideal) x3 x10 (ix3 0 R x)) (fun x => x11 (ix2 0 x)) d := by
  rw [val_main_v77_apply, val_main_v74_apply, val_main_v73_apply, emb0_scale, emb0_mean, emb0_gain, bits_zero, zero_add]
  rfl

theorem emb_apply (R : Fin 16384) (d : Fin 1024) :
    val_main_v77 (F := Ideal) x3 x10 x11 (ix3 0 R d) = embRow x3 x10 x11 0 R d := by
  rw [emb0_apply]
  unfold embRow
  refine congrArg (fun v => rmsD v _ d) (funext fun d => ?_)
  refine (val_main_v63_apply x3 x10 _).trans (Finset.sum_congr rfl fun k _ => congrArg₂ (· * ·) (congrArg x3 ?_) ((val_main_v3_apply x10 _).trans (congrArg x10 ?_)))
  · funext a
    match a with
    | ⟨0, _⟩ => rfl
    | ⟨1, _⟩ => rfl
    | ⟨2, _⟩ => rfl
  · funext a
    match a with
    | ⟨0, _⟩ => rfl
    | ⟨1, _⟩ => rfl

theorem hidden_apply (R : Fin 16384) (d : Fin 1024) :
    val_main_v24 (F := Ideal) x0 x1 x2 x4 x5 (ix3 0 R d) = hidRow x0 x1 x2 x4 x5 0 R d := by
  rw [hid_apply]
  unfold hidRow
  exact congrArg (fun v => rmsD v _ d) (funext fun d => mid_apply x0 x1 x2 x4 R d)

theorem up_apply (n : Fin 16386) (q : Fin 5632) :
    val_main_v26 (F := Ideal) x0 x1 x2 x4 x5 x6 (ix3 0 n q) = upRow x0 x1 x2 x4 x5 x6 0 n.val q := by
  unfold val_main_v26
  rw [pad_apply]
  unfold upRow
  split_ifs with h
  · refine (val_main_v25_apply x0 x1 x2 x4 x5 x6 _).trans (Finset.sum_congr rfl fun k _ => congrArg₂ (· * ·) ?_ ((val_main_v1_apply x6 _).trans (congrArg x6 ?_)))
    · refine Eq.trans (congrArg _ ?_) (hidden_apply x0 x1 x2 x4 x5 ⟨n.val - 1, by omega⟩ k)
      funext a
      match a with
      | ⟨0, _⟩ => rfl
      | ⟨1, _⟩ => rfl
      | ⟨2, _⟩ => rfl
    · funext a
      match a with
      | ⟨0, _⟩ => rfl
      | ⟨1, _⟩ => rfl
  · exact pad_zero _

theorem row0_apply (R : Fin 16384) (q : Fin 5632) :
    val_main_v27 (F := Ideal) x0 x1 x2 x4 x5 x6 (ix3 0 R q) = upRow x0 x1 x2 x4 x5 x6 0 R.val q := by
  refine (val_main_v27_apply x0 x1 x2 x4 x5 x6 _).trans (Eq.trans (congrArg _ ?_) (up_apply x0 x1 x2 x4 x5 x6 ⟨R.val, by omega⟩ q))
  funext a
  match a with
  | ⟨0, _⟩ => rfl
  | ⟨1, _⟩ => rfl
  | ⟨2, _⟩ => rfl

theorem tap0_apply (R : Fin 16384) (q : Fin 5632) :
    val_main_v31 (F := Ideal) x7 (ix3 0 R q) = x7 (ix2 0 q) := by
  refine (val_main_v31_apply x7 _).trans ((val_main_v30_apply x7 _).trans ((val_main_v29_apply x7 _).trans ((val_main_v28_apply x7 _).trans (congrArg x7 ?_))))
  funext a
  match a with
  | ⟨0, _⟩ => rfl
  | ⟨1, _⟩ => exact Fin.ext (show q.val % 5632 = q.val from Nat.mod_eq_of_lt q.isLt)

theorem row1_apply (R : Fin 16384) (q : Fin 5632) :
    val_main_v33 (F := Ideal) x0 x1 x2 x4 x5 x6 (ix3 0 R q) = upRow x0 x1 x2 x4 x5 x6 0 (1 + R.val) q := by
  refine (val_main_v33_apply x0 x1 x2 x4 x5 x6 _).trans (Eq.trans (congrArg _ ?_) (up_apply x0 x1 x2 x4 x5 x6 ⟨(1 + R.val), by omega⟩ q))
  funext a
  match a with
  | ⟨0, _⟩ => rfl
  | ⟨1, _⟩ => rfl
  | ⟨2, _⟩ => rfl

theorem tap1_apply (R : Fin 16384) (q : Fin 5632) :
    val_main_v37 (F := Ideal) x7 (ix3 0 R q) = x7 (ix2 1 q) := by
  refine (val_main_v37_apply x7 _).trans ((val_main_v36_apply x7 _).trans ((val_main_v35_apply x7 _).trans ((val_main_v34_apply x7 _).trans (congrArg x7 ?_))))
  funext a
  match a with
  | ⟨0, _⟩ => rfl
  | ⟨1, _⟩ => exact Fin.ext (show q.val % 5632 = q.val from Nat.mod_eq_of_lt q.isLt)

theorem row2_apply (R : Fin 16384) (q : Fin 5632) :
    val_main_v40 (F := Ideal) x0 x1 x2 x4 x5 x6 (ix3 0 R q) = upRow x0 x1 x2 x4 x5 x6 0 (2 + R.val) q := by
  refine (val_main_v40_apply x0 x1 x2 x4 x5 x6 _).trans (Eq.trans (congrArg _ ?_) (up_apply x0 x1 x2 x4 x5 x6 ⟨(2 + R.val), by omega⟩ q))
  funext a
  match a with
  | ⟨0, _⟩ => rfl
  | ⟨1, _⟩ => rfl
  | ⟨2, _⟩ => rfl

theorem tap2_apply (R : Fin 16384) (q : Fin 5632) :
    val_main_v44 (F := Ideal) x7 (ix3 0 R q) = x7 (ix2 2 q) := by
  refine (val_main_v44_apply x7 _).trans ((val_main_v43_apply x7 _).trans ((val_main_v42_apply x7 _).trans ((val_main_v41_apply x7 _).trans (congrArg x7 ?_))))
  funext a
  match a with
  | ⟨0, _⟩ => rfl
  | ⟨1, _⟩ => exact Fin.ext (show q.val % 5632 = q.val from Nat.mod_eq_of_lt q.isLt)

theorem bias_apply (R : Fin 16384) (q : Fin 5632) :
    val_main_v49 (F := Ideal) x8 (ix3 0 R q) = x8 (ix2 0 q) := by
  refine (val_main_v49_apply x8 _).trans ((val_main_v48_apply x8 _).trans ((val_main_v47_apply x8 _).trans (congrArg x8 ?_)))
  funext a
  match a with
  | ⟨0, _⟩ => rfl
  | ⟨1, _⟩ => exact Fin.ext (show q.val % 5632 = q.val from Nat.mod_eq_of_lt q.isLt)

theorem gbias_apply (R : Fin 16384) (q : Fin 1024) :
    val_main_v81 (F := Ideal) x13 (ix3 0 R q) = x13 (ix2 0 q) := by
  refine (val_main_v81_apply x13 _).trans ((val_main_v80_apply x13 _).trans ((val_main_v79_apply x13 _).trans (congrArg x13 ?_)))
  funext a
  match a with
  | ⟨0, _⟩ => rfl
  | ⟨1, _⟩ => exact Fin.ext (show q.val % 1024 = q.val from Nat.mod_eq_of_lt q.isLt)

/-- The convolved row. -/
def convRow (R : Fin 16384) (q : Fin 5632) : EReal :=
  tap3 (fun k q => x7 (ix2 k q)) (fun q => x8 (ix2 0 q)) (upRow x0 x1 x2 x4 x5 x6 0 R.val q) (upRow x0 x1 x2 x4 x5 x6 0 (1 + R.val) q) (upRow x0 x1 x2 x4 x5 x6 0 (2 + R.val) q) q

theorem conv_apply (R : Fin 16384) (q : Fin 5632) :
    val_main_v50 (F := Ideal) x0 x1 x2 x4 x5 x6 x7 x8 (ix3 0 R q) = convRow x0 x1 x2 x4 x5 x6 x7 x8 R q := by
  rw [val_main_v50_apply, val_main_v46_apply, val_main_v39_apply, val_main_v32_apply, val_main_v38_apply, val_main_v45_apply,
    row0_apply, row1_apply, row2_apply, tap0_apply, tap1_apply, tap2_apply, bias_apply]
  rfl

theorem glu_apply (R : Fin 16384) (q : Fin 2816) :
    val_main_v60 (F := Ideal) x0 x1 x2 x4 x5 x6 x7 x8 (ix3 0 R q) = glu (convRow x0 x1 x2 x4 x5 x6 x7 x8 R) q := by
  have eg : val_main_v51 (F := Ideal) x0 x1 x2 x4 x5 x6 x7 x8 (ix3 0 R q) = convRow x0 x1 x2 x4 x5 x6 x7 x8 R ⟨q.val, by omega⟩ := by
    refine (val_main_v51_apply x0 x1 x2 x4 x5 x6 x7 x8 _).trans (Eq.trans (congrArg _ ?_) (conv_apply x0 x1 x2 x4 x5 x6 x7 x8 R ⟨q.val, by omega⟩))
    funext a
    match a with
    | ⟨0, _⟩ => rfl
    | ⟨1, _⟩ => rfl
    | ⟨2, _⟩ => rfl
  have eu : val_main_v52 (F := Ideal) x0 x1 x2 x4 x5 x6 x7 x8 (ix3 0 R q) = convRow x0 x1 x2 x4 x5 x6 x7 x8 R ⟨2816 + q.val, by omega⟩ := by
    refine (val_main_v52_apply x0 x1 x2 x4 x5 x6 x7 x8 _).trans (Eq.trans (congrArg _ ?_) (conv_apply x0 x1 x2 x4 x5 x6 x7 x8 R ⟨2816 + q.val, by omega⟩))
    funext a
    match a with
    | ⟨0, _⟩ => rfl
    | ⟨1, _⟩ => rfl
    | ⟨2, _⟩ => rfl
  rw [val_main_v60_apply, val_main_v59_apply, val_main_v58_apply, val_main_v57_apply, val_main_v56_apply, val_main_v55_apply, val_main_v54_apply, val_main_v53_apply,
    eg, eu, val_main_cst_2_apply, val_main_cst_3_apply]
  unfold glu
  exact congrArg (fun z => convRow x0 x1 x2 x4 x5 x6 x7 x8 R ⟨q.val, by omega⟩ * z * convRow x0 x1 x2 x4 x5 x6 x7 x8 R ⟨2816 + q.val, by omega⟩) (logistic_eq _)

/-- The row after the feed-forward. -/
def ffRow (R : Fin 16384) (d : Fin 1024) : EReal :=
  resRow x0 x1 x2 x4 0 R d + lin (glu (convRow x0 x1 x2 x4 x5 x6 x7 x8 R)) (fun q d => x9 (ix2 q d)) d

theorem ff_apply (R : Fin 16384) (d : Fin 1024) :
    val_main_v62 (F := Ideal) x0 x1 x2 x4 x5 x6 x7 x8 x9 (ix3 0 R d) = ffRow x0 x1 x2 x4 x5 x6 x7 x8 x9 R d := by
  refine (val_main_v62_apply x0 x1 x2 x4 x5 x6 x7 x8 x9 _).trans (congrArg₂ (· + ·) (mid_apply x0 x1 x2 x4 R d) ?_)
  refine (val_main_v61_apply x0 x1 x2 x4 x5 x6 x7 x8 x9 _).trans (Finset.sum_congr rfl fun k _ => congrArg₂ (· * ·) ?_ ((val_main_v2_apply x9 _).trans (congrArg x9 ?_)))
  · refine Eq.trans (congrArg _ ?_) (glu_apply x0 x1 x2 x4 x5 x6 x7 x8 R k)
    funext a
    match a with
    | ⟨0, _⟩ => rfl
    | ⟨1, _⟩ => rfl
    | ⟨2, _⟩ => rfl
  · funext a
    match a with
    | ⟨0, _⟩ => rfl
    | ⟨1, _⟩ => rfl

theorem gate_apply (R : Fin 16384) (d : Fin 1024) :
    val_main_v82 (F := Ideal) x0 x1 x2 x4 x5 x6 x7 x8 x9 x12 x13 (ix3 0 R d) = lin (ffRow x0 x1 x2 x4 x5 x6 x7 x8 x9 R) (fun k d => x12 (ix2 k d)) d + x13 (ix2 0 d) := by
  refine (val_main_v82_apply x0 x1 x2 x4 x5 x6 x7 x8 x9 x12 x13 _).trans (congrArg₂ (· + ·) ?_ (gbias_apply x13 R d))
  refine (val_main_v78_apply x0 x1 x2 x4 x5 x6 x7 x8 x9 x12 _).trans (Finset.sum_congr rfl fun k _ => congrArg₂ (· * ·) ?_ ((val_main_v4_apply x12 _).trans (congrArg x12 ?_)))
  · refine Eq.trans (congrArg _ ?_) (ff_apply x0 x1 x2 x4 x5 x6 x7 x8 x9 R k)
    funext a
    match a with
    | ⟨0, _⟩ => rfl
    | ⟨1, _⟩ => rfl
    | ⟨2, _⟩ => rfl
  · funext a
    match a with
    | ⟨0, _⟩ => rfl
    | ⟨1, _⟩ => rfl

/-- THE REFERENCE at an element. -/
theorem out_apply (R : Fin 16384) (d : Fin 1024) :
    val_main_v90 (F := Ideal) x0 x1 x2 x3 x4 x5 x6 x7 x8 x9 x10 x11 x12 x13 (ix3 0 R d) = outRow x0 x1 x2 x3 x4 x5 x6 x7 x8 x9 x10 x11 x12 x13 0 R d := by
  rw [val_main_v90_apply, val_main_v89_apply, val_main_v88_apply, val_main_v87_apply, val_main_v86_apply, val_main_v85_apply, val_main_v84_apply, val_main_v83_apply,
    ff_apply, gate_apply, emb_apply, val_main_cst_7_apply, val_main_cst_8_apply]
  exact congrArg (fun z => ffRow x0 x1 x2 x4 x5 x6 x7 x8 x9 R d + z * embRow x3 x10 x11 0 R d) (logistic_eq _)

end

end Cert.Ffn.One.Ref
end
-- ==== Proof.Ffn.One.Claim.lean ====
module

public import proofs.«01_k».proof.Proof.Ffn.One.Array
public import proofs.«01_k».proof.Proof.Ffn.One.Ref
public import proofs.«01_k».proof.Defs
public import proofs.«01_k».proof.Proof.Gen.Reference3Ideal.Run

/-! The value claim of the feed-forward call at the batch of one. -/

@[expose] public section

set_option maxRecDepth 16384

noncomputable section

namespace Cert.Ffn.One

open Idealize.ShloMosaic Idealize.ShloMosaic.TcCoe Idealize.SL.Sem Cert.Reference3Ideal.Read

/-- The reference's run ends with its result at the value that `Ref` reads. -/
theorem ref_result (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ fun r => ∀ c : Dev Cert.Reference3Ideal.nD,
      r.2.mem ((c.tc : Thread Cert.Reference3Ideal.nD Cert.Reference3Ideal.τ).loc Cert.Reference3Ideal.main_v90)
        = val_main_v90 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13) :=
  (θ_run Cert.Reference3Ideal.defs _ _).mono (fun r h c => ⟨(h c).1.trans (val_main_v90_eq (F := Ideal) m c), (h c).2⟩)
    (Cert.Reference3Ideal.Value.run (F := Ideal) m g)

theorem algebraic : @Cert.algebraic_Kernel3Ideal_Reference3Ideal Cert.Kernel3Ideal.Gen.facts Cert.Reference3Ideal.Gen.facts := by
  intro m g m' g' _ hargs
  refine ⟨fun c => ffnOut (B := 1) (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6)) (m (c.tc.loc Cert.Kernel3Ideal.main_arg7)) (m (c.tc.loc Cert.Kernel3Ideal.main_arg8)) (m (c.tc.loc Cert.Kernel3Ideal.main_arg9)) (m (c.tc.loc Cert.Kernel3Ideal.main_arg10)) (m (c.tc.loc Cert.Kernel3Ideal.main_arg11)) (m (c.tc.loc Cert.Kernel3Ideal.main_arg12)) (m (c.tc.loc Cert.Kernel3Ideal.main_arg13)), ?_, ?_⟩
  · exact (θ_run Cert.Kernel3Ideal.defs _ _).mono (fun r h c => ⟨(h c).1.trans (final m c), (h c).2⟩) (Cert.Kernel3Ideal.Value.run_blocks (F := Ideal) m g)
  · refine (θ_run Cert.Reference3Ideal.defs _ _).mono (fun r h c => ⟨(h c).1.trans ?_, (h c).2⟩) (ref_result m' g')
    obtain ⟨e0, e1, e2, e3, e4, e5, e6, e7, e8, e9, e10, e11, e12, e13⟩ := hargs c
    rw [e0, e1, e2, e3, e4, e5, e6, e7, e8, e9, e10, e11, e12, e13]
    refine funext fun i => ?_
    have hi : i = ix3 (0 : Fin 1) (i 1 : Fin 16384) (i 2 : Fin 1024) :=
      (eq_ix3 (f := i)).trans (congrArg (fun z : Fin 1 => ix3 z (i 1 : Fin 16384) (i 2 : Fin 1024)) (Subsingleton.elim (α := Fin 1) _ _))
    rw [hi]
    exact Ref.out_apply _ _ _ _ _ _ _ _ _ _ _ _ _ _ (i 1) (i 2)

end Cert.Ffn.One

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.Attn.Claim
public import proofs.«01_k».proof.Proof.Ffn.Claim
public import proofs.«01_k».proof.Proof.Ffn.One.Claim
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Proof

open Idealize.ShloMosaic Idealize.SL.Sem

theorem quiescent_reference2 : @Cert.quiescent_Reference2Ideal Cert.Reference2Ideal.Gen.facts := fun m g _ =>
  (θ_run Cert.Reference2Ideal.defs _ _).mono (fun r h => ⟨fun c => (h c).2, sem_eq_zero_of_no_sems (by decide) r.2⟩)
    (Cert.Reference2Ideal.Value.run (F := Ideal) m g)

theorem quiescent_reference3 : @Cert.quiescent_Reference3Ideal Cert.Reference3Ideal.Gen.facts := fun m g _ =>
  (θ_run Cert.Reference3Ideal.defs _ _).mono (fun r h => ⟨fun c => (h c).2, sem_eq_zero_of_no_sems (by decide) r.2⟩)
    (Cert.Reference3Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.Gen.facts,
  fun m g _ => Cert.Kernel.Gen.frame m g,
  fun m g _ => Cert.KernelIdeal.Gen.frame m g,
  fun m g _ => Cert.KernelIdeal.Gen.frame m g,
  Cert.Attn.quiescent_reference,
  fun m g _ => Cert.Attn.quiescent_reference m g trivial,
  fun m g _ => Cert.Kernel2.Gen.frame m g,
  fun m g _ => Cert.Kernel2Ideal.Gen.frame m g,
  quiescent_reference2,
  fun m g _ => Cert.Kernel3.Gen.frame m g,
  fun m g _ => Cert.Kernel3Ideal.Gen.frame m g,
  quiescent_reference3,
  IdealRules.named_const.statement Cert.KernelIdeal.κ "log2e" .f32 0x3FB8AA3B#32 (((Real.log 2)⁻¹ : ℝ) : EReal) rfl,
  Cert.Attn.algebraic,
  trivial,
  Cert.Ffn.algebraic,
  trivial,
  Cert.Ffn.One.algebraic⟩

end Cert.Proof

end
